-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![65536, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S2x528x1024 : Shape := ⟨3, ![2, 528, 1024]⟩
abbrev S2x512x1024 : Shape := ⟨3, ![2, 512, 1024]⟩
abbrev S8x1024 : Shape := ⟨2, ![8, 1024]⟩
abbrev S2 : Shape := ⟨1, ![2]⟩
abbrev S_ : Shape := ⟨0, ![]⟩
abbrev S1 : Shape := ⟨1, ![1]⟩
abbrev S1x528x1024 : Shape := ⟨3, ![1, 528, 1024]⟩
abbrev S528x1024 : Shape := ⟨2, ![528, 1024]⟩
abbrev S512x1024 : Shape := ⟨2, ![512, 1024]⟩
abbrev S1x512x1024 : Shape := ⟨3, ![1, 512, 1024]⟩
abbrev S1x520x1024 : Shape := ⟨3, ![1, 520, 1024]⟩
abbrev S520x1024 : Shape := ⟨2, ![520, 1024]⟩
abbrev S1x1024 : Shape := ⟨2, ![1, 1024]⟩
abbrev S1x1x1024 : Shape := ⟨3, ![1, 1, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .local _ .vmem, ⟨0, _⟩ => ⟨S2x528x1024, .f32⟩
  | .local _ .vmem, ⟨1, _⟩ => ⟨S2x512x1024, .f32⟩
  | .local _ .vmem, ⟨2, _⟩ => ⟨S8x1024, .f32⟩
  | .local _ .vmem, ⟨3, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .sgt v2 c0_i32
  let v6 : BitVec 32 := Scalar.extui v3
  let c0_i32_0 : BitVec 32 := 0#32
  let v7 : BitVec 1 := Scalar.cmpi .ne v6 c0_i32_0
  v7

def k0_dev1 (d0 : Dev nD) : Nat :=
  let c0_i32_151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_148 : BitVec 32 := 1#32
  let v202 : BitVec 32 := Scalar.subi v2 c1_i32_148
  let c1_i32_150 : BitVec 32 := 1#32
  let v203 : BitVec 32 := Scalar.muli v202 c1_i32_150
  let v204 : BitVec 32 := Scalar.addi c0_i32_151 v203
  v204.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v4 : BitVec 1 := Scalar.cmpi .slt v2 c31_i32
  let v8 : BitVec 32 := Scalar.extui v4
  let c0_i32_1 : BitVec 32 := 0#32
  let v9 : BitVec 1 := Scalar.cmpi .ne v8 c0_i32_1
  v9

def k0_dev2 (d0 : Dev nD) : Nat :=
  let c0_i32_151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_148 : BitVec 32 := 1#32
  let v202 : BitVec 32 := Scalar.addi v2 c1_i32_148
  let c1_i32_150 : BitVec 32 := 1#32
  let v203 : BitVec 32 := Scalar.muli v202 c1_i32_150
  let v204 : BitVec 32 := Scalar.addi c0_i32_151 v203
  v204.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v4 : BitVec 1 := Scalar.cmpi .slt v2 c31_i32
  let v14 : BitVec 32 := Scalar.extui v4
  let c0_i32_4 : BitVec 32 := 0#32
  let v15 : BitVec 1 := Scalar.cmpi .ne v14 c0_i32_4
  v15

def k0_dev3 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_148 : BitVec 32 := 1#32
  let v202 : BitVec 32 := Scalar.addi v2 c1_i32_148
  let c1_i32_151 : BitVec 32 := 1#32
  let v203 : BitVec 32 := Scalar.muli v202 c1_i32_151
  let v204 : BitVec 32 := Scalar.addi c0_i32_152 v203
  v204.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .sgt v2 c0_i32
  let v16 : BitVec 32 := Scalar.extui v3
  let c0_i32_5 : BitVec 32 := 0#32
  let v17 : BitVec 1 := Scalar.cmpi .ne v16 c0_i32_5
  v17

def k0_dev4 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_148 : BitVec 32 := 1#32
  let v202 : BitVec 32 := Scalar.subi v2 c1_i32_148
  let c1_i32_151 : BitVec 32 := 1#32
  let v203 : BitVec 32 := Scalar.muli v202 c1_i32_151
  let v204 : BitVec 32 := Scalar.addi c0_i32_152 v203
  v204.toNat
-- ==== ReferenceIdeal.lean ====
abbrev S65536x1024 : Shape := ⟨2, ![65536, 1024]⟩
abbrev S65534x1024 : Shape := ⟨2, ![65534, 1024]⟩
abbrev S_ : Shape := ⟨0, ![]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65534x1024, .f32⟩
  | .hbm, ⟨2, _⟩ => ⟨S_, .f32⟩
  | .hbm, ⟨3, _⟩ => ⟨S65534x1024, .f32⟩
  | .hbm, ⟨4, _⟩ => ⟨S65534x1024, .f32⟩
  | .hbm, ⟨5, _⟩ => ⟨S65534x1024, .f32⟩
  | .hbm, ⟨6, _⟩ => ⟨S_, .f32⟩
  | .hbm, ⟨7, _⟩ => ⟨S65534x1024, .f32⟩
  | .hbm, ⟨8, _⟩ => ⟨S65534x1024, .f32⟩
  | .hbm, ⟨9, _⟩ => ⟨S65534x1024, .f32⟩
  | .hbm, ⟨10, _⟩ => ⟨S65534x1024, .f32⟩
  | .hbm, ⟨11, _⟩ => ⟨S_, .f32⟩
  | .hbm, ⟨12, _⟩ => ⟨S65534x1024, .f32⟩
  | .hbm, ⟨13, _⟩ => ⟨S65534x1024, .f32⟩
  | .hbm, ⟨14, _⟩ => ⟨S65534x1024, .f32⟩
  | .hbm, ⟨15, _⟩ => ⟨S1x1024, .f32⟩
  | .hbm, ⟨16, _⟩ => ⟨S1x1024, .f32⟩
  | .hbm, ⟨17, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Proof.KernelIdeal.Protocol.lean ====
/-
  The cross-device protocol of the halo exchange, stated over the rounds library.

  Thirty-two devices stand in a line; device `c` holds rows `2048 c … 2048 c + 2047` of the whole array.
  Per device five semaphore cells are shared with a neighbour:

  * the BARRIER cell: one unit from the left neighbour (if there is one), which lends its buffer for the row
    after its block, and one from the right neighbour (if there is one), which lends its buffer for the row
    before its block. The device takes both units before it copies anything to a neighbour.
  * the two ARRIVAL cells, one per buffer: the neighbour's copy of eight rows credits it once, and the
    landing hands over the buffer with the neighbour's rows in it.
  * the two DEPARTURE cells: the device's own copy to the right (last eight rows) and to the left (first
    eight rows) credit one each when the rows have been read, and give the lent part of the input back.

  A device at an end of the line has no duty towards, and expects none from, the missing side.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources -/

/-- The pipeline library's component beside the protocol's; a cell's duties are named by `Bool`. -/
abbrev UU : Type := UR sig nD τ × (URounds (GSem nD τ sig) Bool × Counters)

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) :=
  (Emb.inl : Emb (URounds (GSem nD τ sig) Bool) (URounds (GSem nD τ sig) Bool × Counters)).trans embR

variable (m : (ℓ : Loc nD τ sig) → Buf (Elt F) ℓ)

/-! ## The line of devices -/

/-- Device `c` has a left neighbour. -/
abbrev HasL (c : Dev nD) : Prop := 0 < c.val
/-- Device `c` has a right neighbour. -/
abbrev HasR (c : Dev nD) : Prop := c.val < 31

set_option backward.proofsInPublic true in
/-- The device to the right; the last device's is the first, which it never talks to. -/
def rgt (c : Dev nD) : Dev nD := ⟨(c.val + 1) % 32, Nat.mod_lt _ (by decide)⟩
set_option backward.proofsInPublic true in
/-- The device to the left; the first device's is the last, which it never talks to. -/
def lft (c : Dev nD) : Dev nD := ⟨(c.val + 31) % 32, Nat.mod_lt _ (by decide)⟩

theorem lft_rgt (c : Dev nD) : lft (rgt c) = c := by revert c; decide
theorem rgt_lft (c : Dev nD) : rgt (lft c) = c := by revert c; decide
theorem hasL_rgt (c : Dev nD) : HasL (rgt c) ↔ HasR c := by revert c; decide
theorem hasR_lft (c : Dev nD) : HasR (lft c) ↔ HasL c := by revert c; decide

/-- Right and left as a bijection of the devices. -/
def ring : Dev nD ≃ Dev nD := ⟨rgt, lft, lft_rgt, rgt_lft⟩

/-- The program's four conditions on the device number, and the devices it then names. -/
theorem cond1_iff : ∀ c : Dev nD, k0_cond1 c = 1#1 ↔ HasL c := by decide +kernel
theorem cond2_iff : ∀ c : Dev nD, k0_cond2 c = 1#1 ↔ HasR c := by decide +kernel
theorem cond5_iff : ∀ c : Dev nD, k0_cond5 c = 1#1 ↔ HasR c := by decide +kernel
theorem cond6_iff : ∀ c : Dev nD, k0_cond6 c = 1#1 ↔ HasL c := by decide +kernel
theorem dev1_eq : ∀ (c : Dev nD) (h : k0_cond1 c = 1#1), (⟨k0_dev1 c, k0_dev1_lt c h⟩ : Dev nD) = lft c := by decide +kernel
theorem dev2_eq : ∀ (c : Dev nD) (h : k0_cond2 c = 1#1), (⟨k0_dev2 c, k0_dev2_lt c h⟩ : Dev nD) = rgt c := by decide +kernel
theorem dev3_eq : ∀ (c : Dev nD) (h : k0_cond5 c = 1#1), (⟨k0_dev3 c, k0_dev3_lt c h⟩ : Dev nD) = rgt c := by decide +kernel
theorem dev4_eq : ∀ (c : Dev nD) (h : k0_cond6 c = 1#1), (⟨k0_dev4 c, k0_dev4_lt c h⟩ : Dev nD) = lft c := by decide +kernel

/-! ## Memrefs and cells -/

abbrev xM : Memref sig .tc .hbm S2048x1024 .f32 := Memref.whole main_arg0
abbrev oM : Memref sig .tc .hbm S2048x1024 .f32 := Memref.whole main_v1
abbrev pM : Memref sig .tc .vmem S8x1024 .f32 := Memref.whole cc0_scratch2
abbrev nM : Memref sig .tc .vmem S8x1024 .f32 := Memref.whole cc0_scratch3

/-- The input's last eight rows, which go to the right, and its first eight, which go to the left. -/
abbrev xR : Memref sig .tc .hbm S8x1024 .f32 :=
  xM.slice (Rect.unit (s := S2048x1024) ![2040, 0] S8x1024.size inb_S2048x1024_S8x1024_2040_0) (fun _ => rfl)
abbrev xL : Memref sig .tc .hbm S8x1024 .f32 :=
  xM.slice (Rect.unit (s := S2048x1024) ![0, 0] S8x1024.size inb_S2048x1024_S8x1024_0_0) (fun _ => rfl)

abbrev barS : Sem sig := (SemArray.scalar (sig.barrier 0 rfl) : Sems sig S_).sem
/-- Cell 0 or 1 of a pair of semaphores. -/
abbrev sem0 (a : DmaSems sig S2) : DmaSem sig :=
  ((a.slice (Rect.unit (s := S2) ![0] S1.size inb_S2_S1_0)).squeeze S_ squeezes_S1_S_).sem
abbrev sem1 (a : DmaSems sig S2) : DmaSem sig :=
  ((a.slice (Rect.unit (s := S2) ![1] S1.size inb_S2_S1_1)).squeeze S_ squeezes_S1_S_).sem
abbrev depR : DmaSem sig := sem0 cc0_scratch6
abbrev depL : DmaSem sig := sem1 cc0_scratch6
abbrev arrP : DmaSem sig := sem0 cc0_scratch7
abbrev arrN : DmaSem sig := sem1 cc0_scratch7

abbrev barCell (c : Dev nD) : GSem nD τ sig := ((c : Thread nD τ), .reg barS)
abbrev depRCell (c : Dev nD) : GSem nD τ sig := ((c : Thread nD τ), .dma depR)
abbrev depLCell (c : Dev nD) : GSem nD τ sig := ((c : Thread nD τ), .dma depL)
abbrev arrPCell (c : Dev nD) : GSem nD τ sig := ((c : Thread nD τ), .dma arrP)
abbrev arrNCell (c : Dev nD) : GSem nD τ sig := ((c : Thread nD τ), .dma arrN)

/-- The kernel's own semaphores: two for the copies in, two for the copies out, then departures and arrivals. -/
abbrev osem : Fin 8 → SemLoc sig := fun
  | 0 => .dma (sem0 cc0_scratch4) | 1 => .dma (sem1 cc0_scratch4) | 2 => .dma (sem0 cc0_scratch5) | 3 => .dma (sem1 cc0_scratch5)
  | 4 => .dma depR | 5 => .dma depL | 6 => .dma arrP | 7 => .dma arrN
/-- The five shared cells of a device. -/
abbrev csem : Fin 5 → SemLoc sig := fun | 0 => .reg barS | 1 => .dma depR | 2 => .dma depL | 3 => .dma arrP | 4 => .dma arrN
abbrev kcell (ck : Dev nD × Fin 5) : GSem nD τ sig := ((ck.1 : Thread nD τ), csem ck.2)

/-- The credit of a copy of eight rows. -/
abbrev N : ℕ := (pM : Memref sig .tc .vmem S8x1024 .f32).view.dmaCredit
theorem N_pos : 0 < N := View.dmaCredit_pos _ (by decide)

/-! ## Contents and holdings -/

/-- Device `c`'s block of the input, as launched. -/
abbrev X (c : Dev nD) : Buf (Elt F) ((c : Thread nD τ).loc main_arg0) := m ((c : Thread nD τ).loc main_arg0)

/-- What lands before device `c`'s block: the left neighbour's last eight rows. -/
def landP (c : Dev nD) : Buf (Elt F) ((c : Thread nD τ).loc cc0_scratch2) := (xR : Memref sig .tc .hbm S8x1024 .f32).view.read (Elt F) (X m (lft c))
/-- What lands after device `c`'s block: the right neighbour's first eight rows. -/
def landN (c : Dev nD) : Buf (Elt F) ((c : Thread nD τ).loc cc0_scratch3) := (xL : Memref sig .tc .hbm S8x1024 .f32).view.read (Elt F) (X m (rgt c))

/-- The four shares of the input: one for each copy in that may be in flight, one for each departure. -/
abbrev qA : PosShare TreeShare := fullShare.left.left
abbrev qB : PosShare TreeShare := fullShare.left.right
abbrev qR : PosShare TreeShare := fullShare.right.left
abbrev qL : PosShare TreeShare := fullShare.right.right

def ptsP (c : Dev nD) (f : Buf (Elt F) ((c : Thread nD τ).loc cc0_scratch2)) : sProp 𝕄 := ((c : Thread nD τ).loc cc0_scratch2) ↦{fullShare} f
def ptsN (c : Dev nD) (f : Buf (Elt F) ((c : Thread nD τ).loc cc0_scratch3)) : sProp 𝕄 := ((c : Thread nD τ).loc cc0_scratch3) ↦{fullShare} f
/-- The rows that go right, and those that go left, at the share lent to that copy. -/
def ptsR (c : Dev nD) : sProp 𝕄 := (xR : Memref sig .tc .hbm S8x1024 .f32).view.loc (c : Thread nD τ) ↦[(xR : Memref sig .tc .hbm S8x1024 .f32).view.set]{qR} X m c
def ptsL (c : Dev nD) : sProp 𝕄 := (xL : Memref sig .tc .hbm S8x1024 .f32).view.loc (c : Thread nD τ) ↦[(xL : Memref sig .tc .hbm S8x1024 .f32).view.set]{qL} X m c

instance ptsP_storable (c : Dev nD) (f) : BI.Storable (upEmb : UEmb _ 𝕄) (ptsP (F := F) c f) := by unfold ptsP; infer_instance
instance ptsN_storable (c : Dev nD) (f) : BI.Storable (upEmb : UEmb _ 𝕄) (ptsN (F := F) c f) := by unfold ptsN; infer_instance
instance ptsR_storable (c : Dev nD) : BI.Storable (upEmb : UEmb _ 𝕄) (ptsR (F := F) m c) := by unfold ptsR; infer_instance
instance ptsL_storable (c : Dev nD) : BI.Storable (upEmb : UEmb _ 𝕄) (ptsL (F := F) m c) := by unfold ptsL; infer_instance

/-! ## The schedule -/

/-- What the left neighbour's barrier unit hands `c`: its buffer for the rows after its block, and that its arrival
    cell there stands at its first round. -/
def lendN (c : Dev nD) : sProp 𝕄 := iprop((∃ f, ptsN (lft c) f) ∗ reached ER (arrNCell (lft c)) 0)
/-- What the right neighbour's barrier unit hands `c`: its buffer for the rows before its block, likewise. -/
def lendP (c : Dev nD) : sProp 𝕄 := iprop((∃ f, ptsP (rgt c) f) ∗ reached ER (arrPCell (rgt c)) 0)

/-- The duties of a cell of device `c`: one (`false`) when the neighbour in question exists; the barrier cell has
    `false` for the left neighbour and `true` for the right one. -/
def dutiesOf (sm : SemLoc sig) (c : Dev nD) : Finset Bool :=
  if sm = .reg barS then (if HasL c then {false} else ∅) ∪ (if HasR c then {true} else ∅)
  else if sm = .dma depR ∨ sm = .dma arrN then (if HasR c then {false} else ∅)
  else if sm = .dma depL ∨ sm = .dma arrP then (if HasL c then {false} else ∅)
  else ∅

/-- The payload of a duty: see the module's opening words. -/
def payOf (sm : SemLoc sig) (c : Dev nD) (d : Bool) : sProp 𝕄 :=
  if sm = .reg barS then (if d then lendP c else lendN c)
  else if sm = .dma depR then ptsR m c
  else if sm = .dma depL then ptsL m c
  else if sm = .dma arrP then ptsP c (landP m c)
  else if sm = .dma arrN then ptsN c (landN m c)
  else iprop(emp)

set_option backward.proofsInPublic true in
/-- One round per shared cell. -/
def rd : Rounds.Schedule (GSem nD τ sig) Bool 𝕄 where
  duties g r := if r = 0 ∧ g.1.2 = .tc then dutiesOf g.2 g.1.1 else ∅
  unitless _ := False
  amount g _ _ := if g.2 = .reg barS then 1 else N
  payload g _ d := payOf m g.2 g.1.1 d
  amount_pos g _ _ _ := by
    by_cases h : g.2 = .reg barS
    · rw [if_pos h]; exact Nat.one_pos
    · rw [if_neg h]; exact N_pos

instance rd_payload_storable (g : GSem nD τ sig) (r : ℕ) (d : Bool) :
    BI.Storable (upEmb : UEmb _ 𝕄) ((rd (F := F) m).payload g r d) := by
  show BI.Storable upEmb (payOf m g.2 g.1.1 d)
  unfold payOf lendP lendN
  (repeat' split) <;> infer_instance

section Sched
variable (c : Dev nD)

theorem depR_ne_bar : (SemLoc.dma depR : SemLoc sig) ≠ .reg barS := fun h => by cases h
theorem depL_ne_bar : (SemLoc.dma depL : SemLoc sig) ≠ .reg barS := fun h => by cases h
theorem arrP_ne_bar : (SemLoc.dma arrP : SemLoc sig) ≠ .reg barS := fun h => by cases h
theorem arrN_ne_bar : (SemLoc.dma arrN : SemLoc sig) ≠ .reg barS := fun h => by cases h

theorem duties_zero (sm : SemLoc sig) : (rd (F := F) m).duties ((c : Thread nD τ), sm) 0 = dutiesOf sm c := by dsimp only [rd]; exact if_pos ⟨rfl, rfl⟩
theorem duties_later (g : GSem nD τ sig) : ∀ r, 1 ≤ r → (rd (F := F) m).duties g r = ∅ :=
  fun r hr => by dsimp only [rd]; exact if_neg fun h => by omega

theorem dutiesOf_bar : dutiesOf (.reg barS) c = (if HasL c then {false} else ∅) ∪ (if HasR c then {true} else ∅) := if_pos rfl
theorem dutiesOf_depR : dutiesOf (.dma depR) c = if HasR c then {false} else ∅ := by
  unfold dutiesOf; rw [if_neg depR_ne_bar]; exact if_pos (.inl rfl)
theorem dutiesOf_arrN : dutiesOf (.dma arrN) c = if HasR c then {false} else ∅ := by
  unfold dutiesOf; rw [if_neg arrN_ne_bar]; exact if_pos (.inr rfl)
theorem dutiesOf_depL : dutiesOf (.dma depL) c = if HasL c then {false} else ∅ := by
  unfold dutiesOf; rw [if_neg depL_ne_bar, if_neg (by decide)]; exact if_pos (.inl rfl)
theorem dutiesOf_arrP : dutiesOf (.dma arrP) c = if HasL c then {false} else ∅ := by
  unfold dutiesOf; rw [if_neg arrP_ne_bar, if_neg (by decide)]; exact if_pos (.inr rfl)

theorem amount_bar (d : Bool) : (rd (F := F) m).amount (barCell c) 0 d = 1 := by dsimp only [rd]; exact if_pos rfl
theorem amount_dma (q : DmaSem sig) (d : Bool) : (rd (F := F) m).amount ((c : Thread nD τ), .dma q) 0 d = N := by dsimp only [rd]; exact if_neg fun h => by cases h

theorem payload_bar_false : (rd (F := F) m).payload (barCell c) 0 false = lendN c := by
  dsimp only [rd]; unfold payOf; rw [if_pos rfl]; exact if_neg Bool.false_ne_true
theorem payload_bar_true : (rd (F := F) m).payload (barCell c) 0 true = lendP c := by
  dsimp only [rd]; unfold payOf; rw [if_pos rfl]; exact if_pos rfl
theorem payload_depR (d : Bool) : (rd (F := F) m).payload (depRCell c) 0 d = ptsR m c := by
  dsimp only [rd]; unfold payOf; rw [if_neg depR_ne_bar]; exact if_pos rfl
theorem payload_depL (d : Bool) : (rd (F := F) m).payload (depLCell c) 0 d = ptsL m c := by
  dsimp only [rd]; unfold payOf; rw [if_neg depL_ne_bar, if_neg (by decide)]; exact if_pos rfl
theorem payload_arrP (d : Bool) : (rd (F := F) m).payload (arrPCell c) 0 d = ptsP c (landP m c) := by
  dsimp only [rd]; unfold payOf; rw [if_neg arrP_ne_bar, if_neg (by decide), if_neg (by decide)]; exact if_pos rfl
theorem payload_arrN (d : Bool) : (rd (F := F) m).payload (arrNCell c) 0 d = ptsN c (landN m c) := by
  dsimp only [rd]; unfold payOf; rw [if_neg arrN_ne_bar, if_neg (by decide), if_neg (by decide), if_neg (by decide)]; exact if_pos rfl

/-- A copy cell whose neighbour exists expects one copy's credit, whose landing hands over the one payload. -/
theorem expect_one (q : DmaSem sig) (h : dutiesOf (.dma q) c = {false}) : (rd (F := F) m).expect ((c : Thread nD τ), .dma q) 0 = N := by
  unfold Schedule.expect Schedule.amountOf; rw [duties_zero, h, Finset.sum_singleton, amount_dma]
theorem rest_one (q : DmaSem sig) (h : dutiesOf (.dma q) c = {false}) :
    bigSep ((rd (F := F) m).duties ((c : Thread nD τ), .dma q) 0 \ ∅) (fun d => (rd (F := F) m).payload ((c : Thread nD τ), .dma q) 0 d)
      = (rd (F := F) m).payload ((c : Thread nD τ), .dma q) 0 false := by
  rw [Finset.sdiff_empty, duties_zero, h, bigSep_singleton]

end Sched

/-! ## What each device owes at launch; the levels -/

/-- The dues of device `c`: a copy's credit to the right and to the left neighbour's arrival cell, one unit to each
    neighbour's barrier cell, as far as the neighbour exists. -/
def dueR (c : Dev nD) : CellTallies nD τ sig Unit := if HasR c then tallyAt (arrPCell (rgt c)) () N else 0
def dueL (c : Dev nD) : CellTallies nD τ sig Unit := if HasL c then tallyAt (arrNCell (lft c)) () N else 0
def dueBR (c : Dev nD) : CellTallies nD τ sig Unit := if HasR c then tallyAt (barCell (rgt c)) () 1 else 0
def dueBL (c : Dev nD) : CellTallies nD τ sig Unit := if HasL c then tallyAt (barCell (lft c)) () 1 else 0

/-- All of them, summed in the order they are paid, the first paid last in the sum. -/
def O₀ (c : Dev nD) : CellTallies nD τ sig Unit := dueL c + dueR c + dueBR c + dueBL c

/-- Every cell of a device's main core has one level: barrier cells 1, arrival cells 2, all others 0. -/
def L (g : GSem nD τ sig) : Finset Unit := if g.1.2 = .tc then {()} else ∅
def lv (g : GSem nD τ sig) (_ : Unit) : ℕ := if g.2 = .reg barS then 1 else if g.2 = .dma arrP ∨ g.2 = .dma arrN then 2 else 0

theorem L_of_ne (g : GSem nD τ sig) (h : g.1.2 ≠ .tc) : L g = ∅ := if_neg h
theorem L_tc (c : Dev nD) (sm : SemLoc sig) : L ((c : Thread nD τ), sm) = {()} := if_pos rfl

/-- The copies still owed are owed to arrival cells of other devices. -/
theorem due_pos {c : Dev nD} {g : GSem nD τ sig} {u : Unit} (h : 0 < (dueL c + dueR c) g u) :
    g = arrNCell (lft c) ∨ g = arrPCell (rgt c) := by
  unfold dueL dueR at h
  rw [Pi.add_apply, Finsupp.add_apply] at h
  by_contra hn
  rw [not_or] at hn
  have h1 : (if HasL c then tallyAt (arrNCell (lft c)) () N else 0 : CellTallies nD τ sig Unit) g u = 0 := by
    split
    · rw [tallyAt_apply, if_neg (fun h' => hn.1 h'.1)]
    · rfl
  have h2 : (if HasR c then tallyAt (arrPCell (rgt c)) () N else 0 : CellTallies nD τ sig Unit) g u = 0 := by
    split
    · rw [tallyAt_apply, if_neg (fun h' => hn.2 h'.1)]
    · rfl
  omega

/-- A device may wait on its barrier cell while it owes only copies: arrival cells stand above barrier cells. -/
theorem mayWait_bar (c : Dev nD) :
    (levAts L lv : sProp 𝕄) ⊢ MayWait (c : Thread nD τ) (.reg barS) () (dueL c + dueR c) :=
  MayOwe.of_cut (L := L) (lev := lv) 1 (fun p hp => by rw [Finset.mem_singleton.mp hp, L_tc]; exact Finset.mem_singleton_self _)
    (fun g u hg => by rcases due_pos hg with rfl | rfl <;> exact Finset.mem_singleton_self _)
    (fun p hp => by rw [Finset.mem_singleton.mp hp]; dsimp only [lv]; rw [if_pos rfl])
    (fun g u hg => by
      rcases due_pos hg with rfl | rfl
      · dsimp only [lv]; rw [if_neg arrN_ne_bar, if_pos (.inr rfl)]; decide
      · dsimp only [lv]; rw [if_neg arrP_ne_bar, if_pos (.inl rfl)]; decide)

end Cert.KernelIdeal.Halo

end
-- ==== Proof.KernelIdeal.Steps.lean ====
/-
  The kernel's guarded cross-device steps: each "if the neighbour exists, signal / wait / copy" of the program
  as one rule, at any continuation, with what the step takes and what it leaves.
-/
module

public import proofs.«01_k».proof.Proof.KernelIdeal.Protocol

@[expose] public section

set_option maxRecDepth 16384

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × Fin 5 → ℕ)

/-! ## The records every device holds -/

/-- Every shared cell's invariant, and that every shared cell stands at its first round. -/
def recs : sProp 𝕄 :=
  iprop((bigSep Finset.univ fun ck : Dev nD × Fin 5 => cellInv ER (rd m) (K ck) (kcell ck))
    ∗ bigSep Finset.univ fun ck : Dev nD × Fin 5 => reached ER (kcell ck) 0)

instance recs_persistent : BI.Persistent (recs m K) := by unfold recs; infer_instance

theorem inv_of_all (ck : Dev nD × Fin 5) :
    (bigSep Finset.univ fun ck : Dev nD × Fin 5 => (cellInv ER (rd m) (K ck) (kcell ck) : sProp 𝕄)) ⊢ cellInv ER (rd m) (K ck) (kcell ck) :=
  bigSep_elim (Finset.mem_univ ck)
theorem reached_of_all (ck : Dev nD × Fin 5) :
    (bigSep Finset.univ fun ck : Dev nD × Fin 5 => (reached ER (kcell ck) 0 : sProp 𝕄)) ⊢ reached ER (kcell ck) 0 :=
  bigSep_elim (Finset.mem_univ ck)

theorem recs_inv (ck : Dev nD × Fin 5) : recs m K ⊢ cellInv ER (rd m) (K ck) (kcell ck) := by
  unfold recs
  iintro ⟨#HI, -⟩
  iapply (inv_of_all m K ck); iexact HI
theorem recs_reached (ck : Dev nD × Fin 5) : recs m K ⊢ reached ER (kcell ck) 0 := by
  unfold recs
  iintro ⟨-, #HR⟩
  iapply (reached_of_all (F := F) ck); iexact HR

variable (c : Dev nD)

/-! ## The barrier signals -/

/-- To the left: with the unit goes the device's buffer for the rows before its block. -/
theorem wp_sigL {α : Type} {Q : α → sProp 𝕄} {k : Prog (TpuEff nD τ sig (Elt F) Λ₀ .tc) α} (O : CellTallies nD τ sig Unit) (W : Waits sig Unit) :
    iprop(recs m K ∗ owes (c : Thread nD τ) (O + dueBL c) W ∗ dutyTok ER (barCell (lft c)) 0 true ∗ (∃ f, ptsP (F := F) c f))
      ⊢ iprop(((owes (c : Thread nD τ) O W ∗ (if HasL c then iprop(emp) else iprop(∃ f, ptsP (F := F) c f))) -∗ wp frame (wpE (defs₀ (F := F)) 𝒱₀ (c : Thread nD τ) none) Set.univ k Q)
          -∗ wp frame (wpE (defs₀ (F := F)) 𝒱₀ (c : Thread nD τ) none) Set.univ (if h : k0_cond1 c = 1#1 then
              .op (.semSignal (Dev.tc (⟨k0_dev1 c, k0_dev1_lt c h⟩ : Dev nD)) barS (1#32).toInt) (fun _ => k) else k) Q) := by
  iintro ⟨#HR, HO, Ht, Hp⟩ Hk
  by_cases h : k0_cond1 c = 1#1
  · have hL := (cond1_iff c).mp h
    rw [dif_pos h]
    simp only [dev1_eq c h, dueBL, if_pos hL]
    iapply (Rounds.wp_signal 𝒱₀ ER (rd m) (c : Thread nD τ) none (dst := (lft c : Thread nD τ)) (κ := K (lft c, 0))
      (d := true) (by rw [duties_zero, dutiesOf_bar, if_pos ((hasR_lft c).mpr hL)]; exact Finset.mem_union_right _ (Finset.mem_singleton_self _))
      ((amount_bar m (lft c) true).trans (by decide)) () O rfl) $$ [HO Ht Hp]
    · isplitr; · iapply (recs_inv m K (lft c, 0)); iexact HR
      isplitl [HO]; · iexact HO
      isplitl [Ht]; · iexact Ht
      isplitl [Hp]
      · rw [payload_bar_true]; unfold lendP; rw [rgt_lft]
        isplitl [Hp]; · iexact Hp
        iapply (recs_reached m K (c, 3)); iexact HR
      iapply (recs_reached m K (lft c, 0)); iexact HR
    iintro HO
    iapply Hk
    isplitl [HO]; · iexact HO
    iempintro
  · have hL : ¬ HasL c := fun h' => h ((cond1_iff c).mpr h')
    rw [dif_neg h]
    simp only [dueBL, if_neg hL, add_zero]
    iapply Hk
    isplitl [HO]; · iexact HO
    iexact Hp

/-- To the right: with the unit goes the device's buffer for the rows after its block. -/
theorem wp_sigR {α : Type} {Q : α → sProp 𝕄} {k : Prog (TpuEff nD τ sig (Elt F) Λ₀ .tc) α} (O : CellTallies nD τ sig Unit) (W : Waits sig Unit) :
    iprop(recs m K ∗ owes (c : Thread nD τ) (O + dueBR c) W ∗ dutyTok ER (barCell (rgt c)) 0 false ∗ (∃ f, ptsN (F := F) c f))
      ⊢ iprop(((owes (c : Thread nD τ) O W ∗ (if HasR c then iprop(emp) else iprop(∃ f, ptsN (F := F) c f))) -∗ wp frame (wpE (defs₀ (F := F)) 𝒱₀ (c : Thread nD τ) none) Set.univ k Q)
          -∗ wp frame (wpE (defs₀ (F := F)) 𝒱₀ (c : Thread nD τ) none) Set.univ (if h : k0_cond2 c = 1#1 then
              .op (.semSignal (Dev.tc (⟨k0_dev2 c, k0_dev2_lt c h⟩ : Dev nD)) barS (1#32).toInt) (fun _ => k) else k) Q) := by
  iintro ⟨#HR, HO, Ht, Hp⟩ Hk
  by_cases h : k0_cond2 c = 1#1
  · have hL := (cond2_iff c).mp h
    rw [dif_pos h]
    simp only [dev2_eq c h, dueBR, if_pos hL]
    iapply (Rounds.wp_signal 𝒱₀ ER (rd m) (c : Thread nD τ) none (dst := (rgt c : Thread nD τ)) (κ := K (rgt c, 0))
      (d := false) (by rw [duties_zero, dutiesOf_bar, if_pos ((hasL_rgt c).mpr hL)]; exact Finset.mem_union_left _ (Finset.mem_singleton_self _))
      ((amount_bar m (rgt c) false).trans (by decide)) () O rfl) $$ [HO Ht Hp]
    · isplitr; · iapply (recs_inv m K (rgt c, 0)); iexact HR
      isplitl [HO]; · iexact HO
      isplitl [Ht]; · iexact Ht
      isplitl [Hp]
      · rw [payload_bar_false]; unfold lendN; rw [lft_rgt]
        isplitl [Hp]; · iexact Hp
        iapply (recs_reached m K (c, 4)); iexact HR
      iapply (recs_reached m K (rgt c, 0)); iexact HR
    iintro HO
    iapply Hk
    isplitl [HO]; · iexact HO
    iempintro
  · have hL : ¬ HasR c := fun h' => h ((cond2_iff c).mpr h')
    rw [dif_neg h]
    simp only [dueBR, if_neg hL, add_zero]
    iapply Hk
    isplitl [HO]; · iexact HO
    iexact Hp

/-! ## The barrier waits -/

/-- A credit unit for each of the two sides that exists. -/
def credBL : sProp 𝕄 := if HasL c then cred (tallyAt (barCell c) () 1) else iprop(emp)
def credBR : sProp 𝕄 := if HasR c then cred (tallyAt (barCell c) () 1) else iprop(emp)

/-- The barrier's units by case of which neighbours exist. -/
theorem expect_bar_both (hL : HasL c) (hR : HasR c) : (rd (F := F) m).expect (barCell c) 0 = 2 := by
  unfold Schedule.expect Schedule.amountOf
  rw [duties_zero, dutiesOf_bar, if_pos hL, if_pos hR, Finset.sum_congr rfl fun d _ => amount_bar m c d]; rfl
theorem expect_bar_left (hL : HasL c) (hR : ¬ HasR c) : (rd (F := F) m).expect (barCell c) 0 = 1 := by
  unfold Schedule.expect Schedule.amountOf
  rw [duties_zero, dutiesOf_bar, if_pos hL, if_neg hR, Finset.sum_congr rfl fun d _ => amount_bar m c d]; rfl
theorem expect_bar_right (hL : ¬ HasL c) (hR : HasR c) : (rd (F := F) m).expect (barCell c) 0 = 1 := by
  unfold Schedule.expect Schedule.amountOf
  rw [duties_zero, dutiesOf_bar, if_neg hL, if_pos hR, Finset.sum_congr rfl fun d _ => amount_bar m c d]; rfl

/-- All the barrier's payloads: what the neighbours that exist lend. -/
theorem pays_bar : bigSep ((rd (F := F) m).duties (barCell c) 0) (fun d => (rd (F := F) m).payload (barCell c) 0 d)
    ⊢ iprop((if HasL c then lendN (F := F) c else iprop(emp)) ∗ (if HasR c then lendP (F := F) c else iprop(emp))) := by
  rw [duties_zero, dutiesOf_bar, bigSep_union (by split <;> split <;> decide)]
  show iprop(_ ∗ _) ⊢ _
  iintro ⟨H1, H2⟩
  isplitl [H1]
  · by_cases h : HasL c
    · simp only [if_pos h]; simp only [bigSep_singleton, payload_bar_false]; iexact H1
    · simp only [if_neg h]; iempintro
  · by_cases h : HasR c
    · simp only [if_pos h]; simp only [bigSep_singleton, payload_bar_true]; iexact H2
    · simp only [if_neg h]; iempintro

/-- The payloads of two successive waits, together. -/
theorem pays_join {S : Finset Bool} (hS : S ⊆ (rd (F := F) m).duties (barCell c) 0) :
    iprop(bigSep (S \ ∅) (fun d => (rd (F := F) m).payload (barCell c) 0 d)
        ∗ bigSep ((rd (F := F) m).duties (barCell c) 0 \ S) (fun d => (rd (F := F) m).payload (barCell c) 0 d))
      ⊢ bigSep ((rd (F := F) m).duties (barCell c) 0) (fun d => (rd (F := F) m).payload (barCell c) 0 d) := by
  rw [Finset.sdiff_empty]
  exact Entails.of_eq (bigSep_sdiff_split hS).symm

theorem hasL_or_hasR : HasL c ∨ HasR c := by revert c; decide

/-- Both waits: the barrier cell's one round is over and the cell closed, and the neighbours' buffers are lent. -/
theorem wp_waitBar {α : Type} {Q : α → sProp 𝕄} {k : Prog (TpuEff nD τ sig (Elt F) Λ₀ .tc) α} {A B : Prop} [Decidable A] [Decidable B] (hA : A ↔ HasL c) (hB : B ↔ HasR c) (W : Waits sig Unit) :
    iprop(recs m K ∗ levAts L lv ∗ owes (c : Thread nD τ) (dueL c + dueR c) W ∗ credBL c ∗ credBR c ∗ atPos ER (barCell c) 0 ∅ 0)
      ⊢ iprop((∀ W', (owes (c : Thread nD τ) (dueL c + dueR c) W' ∗ semVal (barCell c) 0
              ∗ (if HasL c then lendN (F := F) c else iprop(emp)) ∗ (if HasR c then lendP (F := F) c else iprop(emp))) -∗ wp frame (wpE (defs₀ (F := F)) 𝒱₀ (c : Thread nD τ) none) Set.univ k Q)
          -∗ wp frame (wpE (defs₀ (F := F)) 𝒱₀ (c : Thread nD τ) none) Set.univ (if _h : A then .op (.semWait barS (1#32).toInt) (fun _ => if _h : B then .op (.semWait barS (1#32).toInt) (fun _ => k) else k)
              else if _h : B then .op (.semWait barS (1#32).toInt) (fun _ => k) else k) Q) := by
  unfold credBL credBR
  iintro ⟨#HR, #Hlev, HO, HcL, HcR, Hat⟩ Hk
  by_cases hL : HasL c <;> by_cases hR : HasR c
  · rw [dif_pos (hA.mpr hL)]
    simp only [dif_pos (hB.mpr hR)]
    simp only [if_pos hL, if_pos hR]
    iapply (Rounds.wp_wait 𝒱₀ ER (rd m) (c : Thread nD τ) none (κ := K (c, 0))
      (wpE_semWait_eq 𝒱₀ (c : Thread nD τ) none Set.univ) (Set.mem_univ _) (cr := Finsupp.single () 1) (O := dueL c + dueR c) (W := W)
      {(.reg barS, ())} (R := 0) (m := 0) (T := ∅) (Util.total_single _ _) (image_single_subset _ _ _)) $$ [HcL HO Hat]
    · isplitr; · iapply (recs_inv m K (c, 0)); iexact HR
      isplitl [HcL]; · iexact HcL
      isplitl [HO]; · iexact HO
      isplitr; · iapply (mayWait_bar c); iexact Hlev
      iexact Hat
    iintro %S ⟨%hS, HO, Hat, Hp1⟩
    iapply (Rounds.wp_wait_rest_token 𝒱₀ ER (rd m) (c : Thread nD τ) none (κ := K (c, 0))
      (wpE_semWait_eq 𝒱₀ (c : Thread nD τ) none Set.univ) (Set.mem_univ _) () (O := dueL c + dueR c) (R := 0) (m := 0 + 1) (T := S)
      (by rw [expect_bar_both m c hL hR]; decide)) $$ [HcR HO Hat]
    · isplitr; · iapply (recs_inv m K (c, 0)); iexact HR
      isplitl [HcR]; · iexact HcR
      isplitl [HO]; · iexact HO
      isplitr; · iapply (mayWait_bar c); iexact Hlev
      iexact Hat
    iintro ⟨HO, Hat, -, Hp2⟩
    imod (Rounds.cell_close ER (rd m) (Set.mem_univ (K (c, 0))) (fun h => h) (R := 0 + 1) (duties_later m (barCell c))) $$ [Hat] with Hz
    · isplitr; · iapply (recs_inv m K (c, 0)); iexact HR
      iexact Hat
    ihave Hp := (pays_join (F := F) m c hS.2.1) $$ [Hp1 Hp2]
    · isplitl [Hp1] <;> iassumption
    ihave Hp := (pays_bar m c) $$ Hp
    simp only [if_pos hL, if_pos hR]
    iapply Hk
    isplitl [HO]; · iexact HO
    isplitl [Hz]; · iexact Hz
    iexact Hp
  · rw [dif_pos (hA.mpr hL)]
    simp only [dif_neg (fun h => hR (hB.mp h))]
    simp only [if_pos hL, if_neg hR]
    iapply (Rounds.wp_wait_rest_token 𝒱₀ ER (rd m) (c : Thread nD τ) none (κ := K (c, 0))
      (wpE_semWait_eq 𝒱₀ (c : Thread nD τ) none Set.univ) (Set.mem_univ _) () (O := dueL c + dueR c) (R := 0) (m := 0) (T := ∅)
      (by rw [expect_bar_left m c hL hR]; decide)) $$ [HcL HO Hat]
    · isplitr; · iapply (recs_inv m K (c, 0)); iexact HR
      isplitl [HcL]; · iexact HcL
      isplitl [HO]; · iexact HO
      isplitr; · iapply (mayWait_bar c); iexact Hlev
      iexact Hat
    iintro ⟨HO, Hat, -, Hp⟩
    imod (Rounds.cell_close ER (rd m) (Set.mem_univ (K (c, 0))) (fun h => h) (R := 0 + 1) (duties_later m (barCell c))) $$ [Hat] with Hz
    · isplitr; · iapply (recs_inv m K (c, 0)); iexact HR
      iexact Hat
    simp only [Finset.sdiff_empty]
    ihave Hp := (pays_bar m c) $$ Hp
    simp only [if_pos hL, if_neg hR]
    iapply Hk
    isplitl [HO]; · iexact HO
    isplitl [Hz]; · iexact Hz
    iexact Hp
  · rw [dif_neg (fun h => hL (hA.mp h))]
    simp only [dif_pos (hB.mpr hR)]
    simp only [if_neg hL, if_pos hR]
    iapply (Rounds.wp_wait_rest_token 𝒱₀ ER (rd m) (c : Thread nD τ) none (κ := K (c, 0))
      (wpE_semWait_eq 𝒱₀ (c : Thread nD τ) none Set.univ) (Set.mem_univ _) () (O := dueL c + dueR c) (R := 0) (m := 0) (T := ∅)
      (by rw [expect_bar_right m c hL hR]; decide)) $$ [HcR HO Hat]
    · isplitr; · iapply (recs_inv m K (c, 0)); iexact HR
      isplitl [HcR]; · iexact HcR
      isplitl [HO]; · iexact HO
      isplitr; · iapply (mayWait_bar c); iexact Hlev
      iexact Hat
    iintro ⟨HO, Hat, -, Hp⟩
    imod (Rounds.cell_close ER (rd m) (Set.mem_univ (K (c, 0))) (fun h => h) (R := 0 + 1) (duties_later m (barCell c))) $$ [Hat] with Hz
    · isplitr; · iapply (recs_inv m K (c, 0)); iexact HR
      iexact Hat
    simp only [Finset.sdiff_empty]
    ihave Hp := (pays_bar m c) $$ Hp
    simp only [if_neg hL, if_pos hR]
    iapply Hk
    isplitl [HO]; · iexact HO
    isplitl [Hz]; · iexact Hz
    iexact Hp
  · exact absurd (hasL_or_hasR c) (by rw [not_or]; exact ⟨hL, hR⟩)

/-! ## The copies to the neighbours -/

theorem pM_set : (pM : Memref sig .tc .vmem S8x1024 .f32).view.set = Finset.univ := View.set_whole _
theorem nM_set : (nM : Memref sig .tc .vmem S8x1024 .f32).view.set = Finset.univ := View.set_whole _

set_option maxHeartbeats 1000000 in
/-- The copy of the last eight rows to device `n`, the right neighbour. -/
theorem wp_copyR_to {α : Type} {Q : α → sProp 𝕄} {k : Prog (TpuEff nD τ sig (Elt F) Λ₀ .tc) α} (n : Dev nD) (hn : n = rgt c) (hR : HasR c)
    {hsc : (pM : Memref sig (Dev.tc n : Thread nD τ).2.kind .vmem S8x1024 .f32).view.ref.isScScratch = false}
    {hsrc : (xR : Memref sig .tc .hbm S8x1024 .f32).view.WordExact} {hdst : (pM : Memref sig .tc .vmem S8x1024 .f32).view.WordExact}
    {hsem : DmaTarget.Typed .hbm (.dma arrP) (.remote (Dev.tc n : Thread nD τ) (pM : Memref sig .tc .vmem S8x1024 .f32) (.dma depR) hsc)}
    (O : CellTallies nD τ sig Unit) (W : Waits sig Unit) :
    iprop(recs m K ∗ ptsR m c ∗ lendP c ∗ owes (c : Thread nD τ) (O + dueR c) W
        ∗ dutyTok ER (depRCell c) 0 false ∗ dutyTok ER (arrPCell (rgt c)) 0 false)
      ⊢ iprop(((cred (tallyAt (depRCell c) () N) ∗ owes (c : Thread nD τ) O W) -∗ wp frame (wpE (defs₀ (F := F)) 𝒱₀ (c : Thread nD τ) none) Set.univ k Q)
          -∗ wp frame (wpE (defs₀ (F := F)) 𝒱₀ (c : Thread nD τ) none) Set.univ (.op (.enqueueDma xR (.remote (Dev.tc n : Thread nD τ) pM (.dma depR) hsc) (.dma arrP) hsrc hdst hsem) (fun _ => k)) Q) := by
  subst hn
  unfold lendP ptsP ptsR
  simp only [dueR, if_pos hR]
  iintro ⟨#HR, Hx, ⟨⟨%f, Hp⟩, #Hr⟩, HO, Ht1, Ht2⟩ Hk
  iapply (Rounds.wp_send_pointsTo 𝒱₀ ER (rd m) (c : Thread nD τ) none (κ₁ := K (c, 1)) (κ₂ := K (rgt c, 3))
    (r₁ := 0) (r₂ := 0) (d₁ := false) (d₂ := false) (fd := f) (fs := X m c) (q := qR)
    (by rw [duties_zero, dutiesOf_depR, if_pos hR]; exact Finset.mem_singleton_self _)
    (by rw [duties_zero, dutiesOf_arrP, if_pos ((hasL_rgt c).mpr hR)]; exact Finset.mem_singleton_self _)
    () () N (show (pM : Memref sig .tc .vmem S8x1024 .f32).view.amount (.dma arrP) = N from rfl) (amount_dma m c depR false) (amount_dma m (rgt c) arrP false) O rfl (W := W)
    (by rw [payload_depR]; exact BI.Entails.refl _)
    (by rw [payload_arrP]; unfold ptsP landP; rw [lft_rgt, pM_set, View.write_whole_univ])) $$ [Hx Hp HO Ht1 Ht2]
  · isplitr; · iapply (recs_inv m K (c, 1)); iexact HR
    isplitr; · iapply (recs_inv m K (rgt c, 3)); iexact HR
    isplitl [Hx]; · iexact Hx
    isplitl [Hp]; · rw [pM_set]; iexact Hp
    isplitl [HO]; · iexact HO
    isplitl [Ht1]; · iexact Ht1
    isplitr; · iapply (recs_reached m K (c, 1)); iexact HR
    isplitl [Ht2]; · iexact Ht2
    iexact Hr
  iexact Hk

set_option maxHeartbeats 1000000 in
/-- The copy of the first eight rows to device `n`, the left neighbour. -/
theorem wp_copyL_to {α : Type} {Q : α → sProp 𝕄} {k : Prog (TpuEff nD τ sig (Elt F) Λ₀ .tc) α} (n : Dev nD) (hn : n = lft c) (hL : HasL c)
    {hsc : (nM : Memref sig (Dev.tc n : Thread nD τ).2.kind .vmem S8x1024 .f32).view.ref.isScScratch = false}
    {hsrc : (xL : Memref sig .tc .hbm S8x1024 .f32).view.WordExact} {hdst : (nM : Memref sig .tc .vmem S8x1024 .f32).view.WordExact}
    {hsem : DmaTarget.Typed .hbm (.dma arrN) (.remote (Dev.tc n : Thread nD τ) (nM : Memref sig .tc .vmem S8x1024 .f32) (.dma depL) hsc)}
    (O : CellTallies nD τ sig Unit) (W : Waits sig Unit) :
    iprop(recs m K ∗ ptsL m c ∗ lendN c ∗ owes (c : Thread nD τ) (O + dueL c) W
        ∗ dutyTok ER (depLCell c) 0 false ∗ dutyTok ER (arrNCell (lft c)) 0 false)
      ⊢ iprop(((cred (tallyAt (depLCell c) () N) ∗ owes (c : Thread nD τ) O W) -∗ wp frame (wpE (defs₀ (F := F)) 𝒱₀ (c : Thread nD τ) none) Set.univ k Q)
          -∗ wp frame (wpE (defs₀ (F := F)) 𝒱₀ (c : Thread nD τ) none) Set.univ (.op (.enqueueDma xL (.remote (Dev.tc n : Thread nD τ) nM (.dma depL) hsc) (.dma arrN) hsrc hdst hsem) (fun _ => k)) Q) := by
  subst hn
  unfold lendN ptsN ptsL
  simp only [dueL, if_pos hL]
  iintro ⟨#HR, Hx, ⟨⟨%f, Hp⟩, #Hr⟩, HO, Ht1, Ht2⟩ Hk
  iapply (Rounds.wp_send_pointsTo 𝒱₀ ER (rd m) (c : Thread nD τ) none (κ₁ := K (c, 2)) (κ₂ := K (lft c, 4))
    (r₁ := 0) (r₂ := 0) (d₁ := false) (d₂ := false) (fd := f) (fs := X m c) (q := qL)
    (by rw [duties_zero, dutiesOf_depL, if_pos hL]; exact Finset.mem_singleton_self _)
    (by rw [duties_zero, dutiesOf_arrN, if_pos ((hasR_lft c).mpr hL)]; exact Finset.mem_singleton_self _)
    () () N (show (nM : Memref sig .tc .vmem S8x1024 .f32).view.amount (.dma arrN) = N from rfl) (amount_dma m c depL false) (amount_dma m (lft c) arrN false) O rfl (W := W)
    (by rw [payload_depL]; exact BI.Entails.refl _)
    (by rw [payload_arrN]; unfold ptsN landN; rw [rgt_lft, nM_set, View.write_whole_univ])) $$ [Hx Hp HO Ht1 Ht2]
  · isplitr; · iapply (recs_inv m K (c, 2)); iexact HR
    isplitr; · iapply (recs_inv m K (lft c, 4)); iexact HR
    isplitl [Hx]; · iexact Hx
    isplitl [Hp]; · rw [nM_set]; iexact Hp
    isplitl [HO]; · iexact HO
    isplitl [Ht1]; · iexact Ht1
    isplitr; · iapply (recs_reached m K (c, 2)); iexact HR
    isplitl [Ht2]; · iexact Ht2
    iexact Hr
  iexact Hk

/-- The guarded copy to the right: where there is no right neighbour, the rows stay. -/
theorem wp_copyR {α : Type} {Q : α → sProp 𝕄} {k : Prog (TpuEff nD τ sig (Elt F) Λ₀ .tc) α}
    {hsc : (h : k0_cond5 c = 1#1) → (pM : Memref sig (Dev.tc (⟨k0_dev3 c, k0_dev3_lt c h⟩ : Dev nD) : Thread nD τ).2.kind .vmem S8x1024 .f32).view.ref.isScScratch = false}
    {hsrc : (xR : Memref sig .tc .hbm S8x1024 .f32).view.WordExact} {hdst : (pM : Memref sig .tc .vmem S8x1024 .f32).view.WordExact}
    {hsem : (h : k0_cond5 c = 1#1) → DmaTarget.Typed .hbm (.dma arrP) (.remote (Dev.tc (⟨k0_dev3 c, k0_dev3_lt c h⟩ : Dev nD) : Thread nD τ) (pM : Memref sig .tc .vmem S8x1024 .f32) (.dma depR) (hsc h))}
    (O : CellTallies nD τ sig Unit) (W : Waits sig Unit) :
    iprop(recs m K ∗ ptsR m c ∗ (if HasR c then lendP (F := F) c else iprop(emp)) ∗ owes (c : Thread nD τ) (O + dueR c) W
        ∗ dutyTok ER (depRCell c) 0 false ∗ dutyTok ER (arrPCell (rgt c)) 0 false)
      ⊢ iprop((((if HasR c then cred (tallyAt (depRCell c) () N) else ptsR m c) ∗ owes (c : Thread nD τ) O W) -∗ wp frame (wpE (defs₀ (F := F)) 𝒱₀ (c : Thread nD τ) none) Set.univ k Q)
          -∗ wp frame (wpE (defs₀ (F := F)) 𝒱₀ (c : Thread nD τ) none) Set.univ (if h : k0_cond5 c = 1#1 then
              .op (.enqueueDma xR (.remote (Dev.tc (⟨k0_dev3 c, k0_dev3_lt c h⟩ : Dev nD) : Thread nD τ) pM (.dma depR) (hsc h)) (.dma arrP) hsrc hdst (hsem h)) (fun _ => k)
              else k) Q) := by
  by_cases h : k0_cond5 c = 1#1
  · have hR := (cond5_iff c).mp h
    rw [dif_pos h]; simp only [if_pos hR]
    exact wp_copyR_to m K c _ (dev3_eq c h) hR O W
  · have hR : ¬ HasR c := fun h' => h ((cond5_iff c).mpr h')
    rw [dif_neg h]; simp only [if_neg hR, dueR, add_zero]
    iintro ⟨-, Hx, -, HO, -, -⟩ Hk
    iapply Hk
    isplitl [Hx] <;> iassumption

/-- The guarded copy to the left: where there is no left neighbour, the rows stay. -/
theorem wp_copyL {α : Type} {Q : α → sProp 𝕄} {k : Prog (TpuEff nD τ sig (Elt F) Λ₀ .tc) α}
    {hsc : (h : k0_cond6 c = 1#1) → (nM : Memref sig (Dev.tc (⟨k0_dev4 c, k0_dev4_lt c h⟩ : Dev nD) : Thread nD τ).2.kind .vmem S8x1024 .f32).view.ref.isScScratch = false}
    {hsrc : (xL : Memref sig .tc .hbm S8x1024 .f32).view.WordExact} {hdst : (nM : Memref sig .tc .vmem S8x1024 .f32).view.WordExact}
    {hsem : (h : k0_cond6 c = 1#1) → DmaTarget.Typed .hbm (.dma arrN) (.remote (Dev.tc (⟨k0_dev4 c, k0_dev4_lt c h⟩ : Dev nD) : Thread nD τ) (nM : Memref sig .tc .vmem S8x1024 .f32) (.dma depL) (hsc h))}
    (O : CellTallies nD τ sig Unit) (W : Waits sig Unit) :
    iprop(recs m K ∗ ptsL m c ∗ (if HasL c then lendN (F := F) c else iprop(emp)) ∗ owes (c : Thread nD τ) (O + dueL c) W
        ∗ dutyTok ER (depLCell c) 0 false ∗ dutyTok ER (arrNCell (lft c)) 0 false)
      ⊢ iprop((((if HasL c then cred (tallyAt (depLCell c) () N) else ptsL m c) ∗ owes (c : Thread nD τ) O W) -∗ wp frame (wpE (defs₀ (F := F)) 𝒱₀ (c : Thread nD τ) none) Set.univ k Q)
          -∗ wp frame (wpE (defs₀ (F := F)) 𝒱₀ (c : Thread nD τ) none) Set.univ (if h : k0_cond6 c = 1#1 then
              .op (.enqueueDma xL (.remote (Dev.tc (⟨k0_dev4 c, k0_dev4_lt c h⟩ : Dev nD) : Thread nD τ) nM (.dma depL) (hsc h)) (.dma arrN) hsrc hdst (hsem h)) (fun _ => k)
              else k) Q) := by
  by_cases h : k0_cond6 c = 1#1
  · have hL := (cond6_iff c).mp h
    rw [dif_pos h]; simp only [if_pos hL]
    exact wp_copyL_to m K c _ (dev4_eq c h) hL O W
  · have hL : ¬ HasL c := fun h' => h ((cond6_iff c).mpr h')
    rw [dif_neg h]; simp only [if_neg hL, dueL, add_zero]
    iintro ⟨-, Hx, -, HO, -, -⟩ Hk
    iapply Hk
    isplitl [Hx] <;> iassumption

/-! ## The waits for the copies -/

/-- A guarded wait on a copy cell: the cell closes at zero, and where the neighbour exists (`C`) the wait turns the
    copy's credit into the cell's payload; where it does not, what stood in its place (`R`) stays. -/
theorem wp_waitCopy {α : Type} {Q : α → sProp 𝕄} {k : Prog (TpuEff nD τ sig (Elt F) Λ₀ .tc) α} (i : Fin 5) (q : DmaSem sig) (hi : csem i = .dma q) {A C : Prop} [Decidable A] [Decidable C] (hA : A ↔ C)
    (hq : dutiesOf (.dma q) c = if C then {false} else ∅) {sp sp' : Space} {s s' : Shape} {e e' : EltTy} {κ' : Kind}
    {src : Memref sig .tc sp' s' e'} {dst : Memref sig κ' sp s e} {hsrc : src.view.WordExact} {hdst : dst.view.WordExact}
    (hN : dst.view.dmaCredit = N) (R : sProp 𝕄) (W : Waits sig Unit) :
    iprop(recs m K ∗ (if C then cred (tallyAt ((c : Thread nD τ), .dma q) () N) else R) ∗ owes (c : Thread nD τ) 0 W
        ∗ atPos ER ((c : Thread nD τ), .dma q) 0 ∅ 0)
      ⊢ iprop((∀ W', ((if C then (rd (F := F) m).payload ((c : Thread nD τ), .dma q) 0 false else R) ∗ owes (c : Thread nD τ) 0 W'
              ∗ semVal ((c : Thread nD τ), .dma q) 0) -∗ wp frame (wpE (defs₀ (F := F)) 𝒱₀ (c : Thread nD τ) none) Set.univ k Q)
          -∗ wp frame (wpE (defs₀ (F := F)) 𝒱₀ (c : Thread nD τ) none) Set.univ (if _h : A then .op (.waitDma2 q src dst hsrc hdst) (fun _ => k) else k) Q) := by
  have hinv : recs m K ⊢ cellInv ER (rd m) (K (c, i)) ((c : Thread nD τ), .dma q) := by
    rw [← hi]; exact recs_inv m K (c, i)
  by_cases hC : C
  · rw [dif_pos (hA.mpr hC)]
    simp only [if_pos hC]
    rw [if_pos hC] at hq
    iintro ⟨#HR, Hc, HO, Hat⟩ Hk
    iapply (Rounds.wp_wait_rest_token 𝒱₀ ER (rd m) (c : Thread nD τ) none (κ := K (c, i)) (k' := dst.view.dmaCredit)
      (wpE_waitDma2_eq 𝒱₀ (c : Thread nD τ) none Set.univ) (Set.mem_univ _) () (O := 0) (W := W) (R := 0) (m := 0) (T := ∅)
      (by rw [Nat.zero_add, expect_one m c q hq, hN])) $$ [Hc HO Hat]
    · isplitr; · iapply hinv; iexact HR
      isplitl [Hc]; · rw [hN]; iexact Hc
      isplitl [HO]; · iexact HO
      isplitr; · rw [MayWait_zero]; iempintro
      iexact Hat
    iintro ⟨HO, Hat, -, Hp⟩
    imod (Rounds.cell_close ER (rd m) (Set.mem_univ (K (c, i))) (fun h => h) (R := 0 + 1) (duties_later m _)) $$ [Hat] with Hz
    · isplitr; · iapply hinv; iexact HR
      iexact Hat
    ihave Hp := (Entails.of_eq (rest_one m c q hq)) $$ Hp
    iapply Hk
    isplitl [Hp]; · iexact Hp
    isplitl [HO] <;> iassumption
  · rw [dif_neg (fun h => hC (hA.mp h))]
    simp only [if_neg hC]
    rw [if_neg hC] at hq
    iintro ⟨#HR, Hc, HO, Hat⟩ Hk
    imod (Rounds.cell_close ER (rd m) (Set.mem_univ (K (c, i))) (fun h => h) (R := 0)
      (fun r _ => by
        rcases Nat.eq_zero_or_pos r with rfl | hr
        · rw [duties_zero, hq]
        · exact duties_later m _ r hr)) $$ [Hat] with Hz
    · isplitr; · iapply hinv; iexact HR
      iexact Hat
    iapply Hk
    isplitl [Hc]; · iexact Hc
    isplitl [HO] <;> iassumption

end Cert.KernelIdeal.Halo

end
-- ==== Proof.Windows.lean ====
/-
  Windows of rows: reading and writing `n` whole rows of a grid, or of one of the slots of a stack of grids, at an index.
-/
module

public import Idealize.ShloMosaic.Lib.ValueLayout
public import Idealize.ShloMosaic.Lib.Writes
public import Idealize.ShloMosaic.Lib.Pipeline.Value

@[expose] public section

namespace Cert.Windows

open Idealize.ShloMosaic
open Idealize.ShloMosaic.ValueIdx (ix2 ix3)

variable {sig : RefSig} {κ : Kind} {sp : Space} {Val : EltTy → Type} {α : Type} {G R C : ℕ}

/-! ## Grids -/

/-- Where the window of `n` rows from row `r` keeps its index `(i, j)`: at `(r + i, j)`. -/
theorem rows_emb (r n : ℕ) (inb) (i : Fin n) (j : Fin C) (h : r + i.val < R) :
    (Rect.unit (s := ⟨2, ![R, C]⟩) ![r, 0] ![n, C] inb).emb (ix2 i j) = ix2 ⟨r + i.val, h⟩ j := by
  funext a
  apply Fin.ext
  rw [Rect.emb_apply]
  match a with
  | ⟨0, _⟩ => show r + 1 * i.val = r + i.val; omega
  | ⟨1, _⟩ => show 0 + 1 * j.val = j.val; omega

/-- Row `i` is among the `n` rows from row `r` exactly if `r ≤ i < r + n`. -/
theorem mem_rows (r n : ℕ) (inb) (i : Fin R) (j : Fin C) :
    ix2 i j ∈ (Rect.unit (s := ⟨2, ![R, C]⟩) ![r, 0] ![n, C] inb).set ↔ r ≤ i.val ∧ i.val < r + n := by
  rw [Rect.mem_set_unit]
  refine ⟨fun h => h 0, fun h a => ?_⟩
  match a with
  | ⟨0, _⟩ => exact h
  | ⟨1, _⟩ => exact ⟨Nat.zero_le _, by show j.val < 0 + C; omega⟩

/-- A grid read after a write of `n` rows from row `r`: the rows written hold the payload, the others what they held. -/
theorem read_write_rows (v : View sig κ sp ⟨2, ![R, C]⟩ .f32) (r n : ℕ) (inb) (f : v.ty.Contents Val)
    (w : (Rect.unit (s := ⟨2, ![R, C]⟩) ![r, 0] ![n, C] inb).shape.Idx → Val .f32) (i : Fin R) (j : Fin C) :
    v.read Val ((v.slice (Rect.unit (s := ⟨2, ![R, C]⟩) ![r, 0] ![n, C] inb)).write Val f w Finset.univ) (ix2 i j)
      = if h : r ≤ i.val ∧ i.val < r + n then w (ix2 (n0 := n) ⟨i.val - r, by omega⟩ j) else v.read Val f (ix2 i j) := by
  split
  · rename_i h
    have e : ix2 i j = (Rect.unit (s := ⟨2, ![R, C]⟩) ![r, 0] ![n, C] inb).emb (ix2 (n0 := n) ⟨i.val - r, by omega⟩ j) := by
      rw [rows_emb r n inb _ j (by show r + (i.val - r) < R; omega)]
      congr 1
      exact Fin.ext (by show i.val = r + (i.val - r); omega)
    rw [e]
    exact View.read_slice_write_emb _ f w (Finset.mem_univ _)
  · rename_i h
    exact View.read_slice_write_of_not_mem _ f w _ (by rw [Rect.map_emb_univ, mem_rows]; exact h)

/-! ## Stacks of grids -/

/-- Where the window of `n` rows from row `r` of slot `s` keeps its index `(0, i, j)`: at `(s, r + i, j)`. -/
theorem slot_emb (s r n : ℕ) (inb) (u : Fin 1) (i : Fin n) (j : Fin C) (hs : s < G) (h : r + i.val < R) :
    (Rect.unit (s := ⟨3, ![G, R, C]⟩) ![s, r, 0] ![1, n, C] inb).emb (ix3 u i j) = ix3 ⟨s, hs⟩ ⟨r + i.val, h⟩ j := by
  funext a
  apply Fin.ext
  rw [Rect.emb_apply]
  match a with
  | ⟨0, _⟩ => show s + 1 * u.val = s; omega
  | ⟨1, _⟩ => show r + 1 * i.val = r + i.val; omega
  | ⟨2, _⟩ => show 0 + 1 * j.val = j.val; omega

/-- Row `i` of slot `a` is among the `n` rows from row `r` of slot `s` exactly if `a = s` and `r ≤ i < r + n`. -/
theorem mem_slot (s r n : ℕ) (inb) (a : Fin G) (i : Fin R) (j : Fin C) :
    ix3 a i j ∈ (Rect.unit (s := ⟨3, ![G, R, C]⟩) ![s, r, 0] ![1, n, C] inb).set ↔ a.val = s ∧ r ≤ i.val ∧ i.val < r + n := by
  rw [Rect.mem_set_unit]
  constructor
  · intro h
    have h0 : s ≤ a.val ∧ a.val < s + 1 := h 0
    exact ⟨by omega, h 1⟩
  · rintro ⟨h0, h1⟩ b
    match b with
    | ⟨0, _⟩ => exact ⟨by show s ≤ a.val; omega, by show a.val < s + 1; omega⟩
    | ⟨1, _⟩ => exact h1
    | ⟨2, _⟩ => exact ⟨Nat.zero_le _, by show j.val < 0 + C; omega⟩

/-- A stack read after a write of `n` rows from row `r` of slot `s`: the rows written hold the payload, the others what
    they held. -/
theorem read_write_slot (v : View sig κ sp ⟨3, ![G, R, C]⟩ .f32) (s r n : ℕ) (inb) (f : v.ty.Contents Val)
    (w : (Rect.unit (s := ⟨3, ![G, R, C]⟩) ![s, r, 0] ![1, n, C] inb).shape.Idx → Val .f32) (a : Fin G) (i : Fin R) (j : Fin C) :
    v.read Val ((v.slice (Rect.unit (s := ⟨3, ![G, R, C]⟩) ![s, r, 0] ![1, n, C] inb)).write Val f w Finset.univ) (ix3 a i j)
      = if h : a.val = s ∧ r ≤ i.val ∧ i.val < r + n then w (ix3 (n0 := 1) (n1 := n) 0 ⟨i.val - r, by omega⟩ j)
        else v.read Val f (ix3 a i j) := by
  split
  · rename_i h
    have hs : s < G := h.1 ▸ a.isLt
    have e : ix3 a i j = (Rect.unit (s := ⟨3, ![G, R, C]⟩) ![s, r, 0] ![1, n, C] inb).emb (ix3 (n0 := 1) (n1 := n) 0 ⟨i.val - r, by omega⟩ j) := by
      rw [slot_emb s r n inb _ _ j hs (by show r + (i.val - r) < R; omega)]
      congr 1
      · exact Fin.ext h.1
      · exact Fin.ext (by show i.val = r + (i.val - r); omega)
    rw [e]
    exact View.read_slice_write_emb _ f w (Finset.mem_univ _)
  · rename_i h
    exact View.read_slice_write_of_not_mem _ f w _ (by rw [Rect.map_emb_univ, mem_slot]; exact h)

/-- The same of a write through the window taken as a grid, its slot axis dropped. -/
theorem read_write_slotGrid (M : Memref sig κ sp ⟨3, ![G, R, C]⟩ .f32) (s r n : ℕ) (inb) (hr)
    (hq : (⟨3, ![1, n, C]⟩ : Shape).Squeezes ⟨2, ![n, C]⟩) (f : M.view.ty.Contents Val)
    (w : (⟨2, ![n, C]⟩ : Shape).Idx → Val .f32) (a : Fin G) (i : Fin R) (j : Fin C) :
    M.view.read Val ((((M.slice (Rect.unit (s := ⟨3, ![G, R, C]⟩) ![s, r, 0] ![1, n, C] inb) hr).squeeze ⟨2, ![n, C]⟩ hq).view).write Val f w
        Finset.univ) (ix3 a i j)
      = if h : a.val = s ∧ r ≤ i.val ∧ i.val < r + n then w (ix2 (n0 := n) ⟨i.val - r, by omega⟩ j)
        else M.view.read Val f (ix3 a i j) := by
  have e := View.write_reshape_univ (Val := Val) (v := M.view.slice (Rect.unit (s := ⟨3, ![G, R, C]⟩) ![s, r, 0] ![1, n, C] inb)) hq.numel_eq f w
  refine (congrArg (fun g => M.view.read Val g (ix3 a i j)) e).trans ?_
  rw [read_write_slot]
  split
  · refine congrArg w ?_
    rw [Equiv.symm_apply_eq]
    exact (ValueIdx.reshapeEquiv_ix2_1ab hq.numel_eq _ _).symm
  · rfl

/-- A window of `n` rows from row `r` of slot `s`, taken as a grid, read at `(i, j)`: the stack at `(s, r + i, j)`. -/
theorem read_slotGrid (M : Memref sig κ sp ⟨3, ![G, R, C]⟩ .f32) (s r n : ℕ) (inb) (hr)
    (hq : (⟨3, ![1, n, C]⟩ : Shape).Squeezes ⟨2, ![n, C]⟩) (f : M.view.ty.Contents Val) (i : Fin n) (j : Fin C)
    (hs : s < G) (h : r + i.val < R) :
    ((M.slice (Rect.unit (s := ⟨3, ![G, R, C]⟩) ![s, r, 0] ![1, n, C] inb) hr).squeeze ⟨2, ![n, C]⟩ hq).view.read Val f (ix2 i j)
      = M.view.read Val f (ix3 ⟨s, hs⟩ ⟨r + i.val, h⟩ j) := by
  have e : ((M.slice (Rect.unit (s := ⟨3, ![G, R, C]⟩) ![s, r, 0] ![1, n, C] inb) hr).squeeze ⟨2, ![n, C]⟩ hq).view.read Val f (ix2 i j)
      = M.view.read Val f ((Rect.unit (s := ⟨3, ![G, R, C]⟩) ![s, r, 0] ![1, n, C] inb).emb (Shape.reshapeEquiv hq.numel_eq (ix2 i j))) := rfl
  rw [e, ValueIdx.reshapeEquiv_ix2_1ab hq.numel_eq i j]
  exact congrArg _ (slot_emb s r n inb _ i j hs h)

/-- A load of `n` rows from row `r` of slot `s`, read at `(0, i, j)`: the stack at `(s, r + i, j)`. -/
theorem readAt_slot (v : View sig κ sp ⟨3, ![G, R, C]⟩ .f32) (s r n : ℕ) (inb) (f : v.ty.Contents Val) (u : Fin 1) (i : Fin n) (j : Fin C)
    (hs : s < G) (h : r + i.val < R) :
    v.readAt Val (Rect.unit (s := ⟨3, ![G, R, C]⟩) ![s, r, 0] ![1, n, C] inb).toLoadRect f (ix3 u i j)
      = v.read Val f (ix3 ⟨s, hs⟩ ⟨r + i.val, h⟩ j) :=
  congrArg (v.read Val f) (slot_emb s r n inb u i j hs h)

/-- A load of `n` rows from row `r` of a grid, read at `(i, j)`: the grid at `(r + i, j)`. -/
theorem readAt_rows (v : View sig κ sp ⟨2, ![R, C]⟩ .f32) (r n : ℕ) (inb) (f : v.ty.Contents Val) (i : Fin n) (j : Fin C) (h : r + i.val < R) :
    v.readAt Val (Rect.unit (s := ⟨2, ![R, C]⟩) ![r, 0] ![n, C] inb).toLoadRect f (ix2 i j) = v.read Val f (ix2 ⟨r + i.val, h⟩ j) :=
  congrArg (v.read Val f) (rows_emb r n inb i j h)

/-- A slice of `n` rows from row `r`, read at `(i, j)`: the grid at `(r + i, j)`. -/
theorem extract_rows (x : (⟨2, ![R, C]⟩ : Shape).Idx → α) (r n : ℕ) (h : (⟨2, ![R, C]⟩ : Shape).Slices ![r, 0] ⟨2, ![n, C]⟩) (i : Fin n) (j : Fin C)
    (hi : r + i.val < R) : extractStridedSlice ⟨2, ![n, C]⟩ ![r, 0] x h (ix2 i j) = x (ix2 ⟨r + i.val, hi⟩ j) :=
  extractStridedSlice_apply _ _ _ _ _ fun a => match a with
    | ⟨0, _⟩ => rfl
    | ⟨1, _⟩ => (Nat.zero_add _).symm

end Cert.Windows
-- ==== Proof.KernelIdeal.Value.lean ====
/-
  What one device leaves in its block of the result.

  The staging buffer's two slots are filled with rows of the block, four times over; each fill is turned into 512 rows
  of results, each result mixing a row with the one above it and the one below. The rows at the block's two ends take
  the missing neighbour from the rows that came from the next device, or are copied if there is no next device.
-/
module

public import proofs.«01_k».proof.Proof.KernelIdeal.Protocol
public import proofs.«01_k».proof.Proof.Windows

@[expose] public section

noncomputable section

namespace Cert.KernelIdeal.Halo

open Cert.KernelIdeal Cert.KernelIdeal.Gen

open Idealize.ShloMosaic
open Idealize.ShloMosaic.TcCoe
open Idealize.ShloMosaic.ValueIdx (ix2 ix3)
open Cert.Windows

variable {F : FTy → Type} [FloatOps F]
variable (m : (ℓ : Loc nD τ sig) → Buf (Elt F) ℓ) (c : Dev nD)

/-! ## The result, row by row -/

/-- A quarter of `a`, half of `b` and a quarter of `d`, added from the left. -/
def mix (a b d : F .f32) : F .f32 :=
  FloatOps.addf (FloatOps.addf (FloatOps.mulf (FloatOps.ofBits .f32 0x3E800000#32) a) (FloatOps.mulf (FloatOps.ofBits .f32 0x3F000000#32) b))
    (FloatOps.mulf (FloatOps.ofBits .f32 0x3E800000#32) d)

/-- Device `c`'s block of the input at row `k` (counted round the block) and column `j`. -/
def row (k : ℕ) (j : Fin 1024) : F .f32 :=
  (X m c : S2048x1024.Idx → F .f32) (ix2 (⟨k % 2048, Nat.mod_lt _ (by omega)⟩ : Fin 2048) j)

theorem row_eq (k : ℕ) (h : k < 2048) (j : Fin 1024) : (X m c : S2048x1024.Idx → F .f32) (ix2 (⟨k, h⟩ : Fin 2048) j) = row m c k j := by
  unfold row; congr 2; exact Fin.ext (Nat.mod_eq_of_lt h).symm

/-- Device `c`'s block of the result at row `k` and column `j`. -/
def outRow (k : ℕ) (j : Fin 1024) : F .f32 :=
  if (k = 0 ∧ ¬HasL c) ∨ (k = 2047 ∧ ¬HasR c) then row m c k j
  else mix (if k = 0 then row m (lft c) 2047 j else row m c (k - 1) j) (row m c k j) (if k = 2047 then row m (rgt c) 0 j else row m c (k + 1) j)

/-- Device `c`'s block of the result. -/
def outC : main_v1.ty.Contents (Elt F) := fun p : S2048x1024.Idx => outRow m c (p 0).val (p 1)

/-- Away from the block's ends a result mixes three rows of the block. -/
theorem outRow_inner (k : ℕ) (h0 : k ≠ 0) (h1 : k ≠ 2047) (j : Fin 1024) : outRow m c k j = mix (row m c (k - 1) j) (row m c k j) (row m c (k + 1) j) := by
  unfold outRow
  rw [if_neg (by tauto), if_neg h0, if_neg h1]

/-- At the block's ends, the neighbour's row, if there is a neighbour. -/
theorem outRow_last (j : Fin 1024) : outRow m c 2047 j
    = if ¬HasR c then row m c 2047 j else mix (row m c 2046 j) (row m c 2047 j) (row m (rgt c) 0 j) := by
  unfold outRow
  by_cases h : HasR c
  · rw [if_neg (by omega), if_neg (by omega), if_pos rfl, if_neg (not_not.mpr h)]
  · rw [if_pos (.inr ⟨rfl, h⟩), if_pos h]
theorem outRow_first (j : Fin 1024) : outRow m c 0 j
    = if ¬HasL c then row m c 0 j else mix (row m (lft c) 2047 j) (row m c 0 j) (row m c 1 j) := by
  unfold outRow
  by_cases h : HasL c
  · rw [if_neg (by omega), if_pos rfl, if_neg (by omega), if_neg (not_not.mpr h)]
  · rw [if_pos (.inl ⟨rfl, h⟩), if_pos h]

/-! ## The staging buffer -/

abbrev aM : Memref sig .tc .vmem S2x528x1024 .f32 := Memref.whole cc0_scratch0
abbrev bM : Memref sig .tc .vmem S2x512x1024 .f32 := Memref.whole cc0_scratch1

/-- The `n` rows of the input from row `r`. -/
def rowsOf (r n : ℕ) (inb : ∀ a, (![r, 0] : Fin 2 → ℕ) a + (![n, 1024] : Fin 2 → ℕ) a ≤ S2048x1024.size a) : (⟨2, ![n, 1024]⟩ : Shape).Idx → Elt F .f32 :=
  (xM.slice (Rect.unit (s := S2048x1024) ![r, 0] ![n, 1024] inb) (fun _ => rfl)).view.read (Elt F) (X m c)

theorem rowsOf_apply (r n : ℕ) (inb) (i : Fin n) (j : Fin 1024) (h : r + i.val < 2048) : rowsOf m c r n inb (ix2 i j) = row m c (r + i.val) j :=
  (congrArg (X m c : S2048x1024.Idx → F .f32) (rows_emb r n inb i j h)).trans (row_eq m c _ h j)

/-- The staging buffer with `n` rows brought into slot `s` from its row `r`. -/
def bring (s r n : ℕ) (inb : ∀ a, (![s, r, 0] : Fin 3 → ℕ) a + (![1, n, 1024] : Fin 3 → ℕ) a ≤ S2x528x1024.size a)
    (hq : (⟨3, ![1, n, 1024]⟩ : Shape).Squeezes ⟨2, ![n, 1024]⟩) (g : cc0_scratch0.ty.Contents (Elt F)) (w : (⟨2, ![n, 1024]⟩ : Shape).Idx → Elt F .f32) :
    cc0_scratch0.ty.Contents (Elt F) :=
  ((aM.slice (Rect.unit (s := S2x528x1024) ![s, r, 0] ![1, n, 1024] inb) (fun _ => rfl)).squeeze ⟨2, ![n, 1024]⟩ hq).view.write (Elt F) g w Finset.univ

theorem bring_apply (s r n : ℕ) (inb) (hq) (g : cc0_scratch0.ty.Contents (Elt F)) (w : (⟨2, ![n, 1024]⟩ : Shape).Idx → Elt F .f32)
    (a : Fin 2) (i : Fin 528) (j : Fin 1024) :
    (bring s r n inb hq g w : S2x528x1024.Idx → F .f32) (ix3 a i j)
      = if h : a.val = s ∧ r ≤ i.val ∧ i.val < r + n then w (ix2 (n0 := n) ⟨i.val - r, by omega⟩ j) else (g : S2x528x1024.Idx → F .f32) (ix3 a i j) :=
  read_write_slotGrid aM s r n inb (fun _ => rfl) hq g w a i j

/-- Slot `s`, loaded whole. -/
def slot (s : ℕ) (inb : ∀ a, (![s, 0, 0] : Fin 3 → ℕ) a + S1x528x1024.size a ≤ S2x528x1024.size a) (g : cc0_scratch0.ty.Contents (Elt F)) : Vec F S1x528x1024 .f32 :=
  aM.view.readAt (Elt F) (Rect.unit (s := S2x528x1024) ![s, 0, 0] S1x528x1024.size inb).toLoadRect g

theorem slot_apply (s : ℕ) (hs : s < 2) (inb) (g : cc0_scratch0.ty.Contents (Elt F)) (i : Fin 528) (j : Fin 1024) :
    slot s inb g (ix3 (0 : Fin 1) i j) = (g : S2x528x1024.Idx → F .f32) (ix3 ⟨s, hs⟩ i j) := by
  refine (readAt_slot aM.view s 0 528 inb g 0 i j hs (by omega)).trans ?_
  exact congrArg (fun k => (g : S2x528x1024.Idx → F .f32) (ix3 ⟨s, hs⟩ k j)) (Fin.ext (Nat.zero_add _))

variable (xb : cc0_scratch0.ty.Contents (Elt F))

/-- The staging buffer after the first two fills, and after each of the next two. -/
def fill2 : cc0_scratch0.ty.Contents (Elt F) :=
  bring 1 0 528 inb_S2x528x1024_S1x528x1024_1_0_0 squeezes_S1x528x1024_S528x1024
    (bring 0 0 528 inb_S2x528x1024_S1x528x1024_0_0_0 squeezes_S1x528x1024_S528x1024 xb (rowsOf m c 504 528 inb_S2048x1024_S528x1024_504_0))
    (rowsOf m c 1016 528 inb_S2048x1024_S528x1024_1016_0)
def fill3 : cc0_scratch0.ty.Contents (Elt F) :=
  bring 0 0 520 inb_S2x528x1024_S1x520x1024_0_0_0 squeezes_S1x520x1024_S520x1024 (fill2 m c xb) (rowsOf m c 1528 520 inb_S2048x1024_S520x1024_1528_0)
def fill4 : cc0_scratch0.ty.Contents (Elt F) :=
  bring 1 8 520 inb_S2x528x1024_S1x520x1024_1_8_0 squeezes_S1x520x1024_S520x1024 (fill3 m c xb) (rowsOf m c 0 520 inb_S2048x1024_S520x1024_0_0)

/-- The four loads: rows 504 to 1031 of the block, rows 1016 to 1543, rows 1528 to 2047 then eight rows of no use, and eight
    rows of no use then rows 0 to 519. -/
def load1 : Vec F S1x528x1024 .f32 := slot 0 inb_S2x528x1024_S1x528x1024_0_0_0 (fill2 m c xb)
def load2 : Vec F S1x528x1024 .f32 := slot 1 inb_S2x528x1024_S1x528x1024_1_0_0 (fill3 m c xb)
def load3 : Vec F S1x528x1024 .f32 := slot 0 inb_S2x528x1024_S1x528x1024_0_0_0 (fill4 m c xb)
def load4 : Vec F S1x528x1024 .f32 := slot 1 inb_S2x528x1024_S1x528x1024_1_0_0 (fill4 m c xb)

theorem load1_apply (i : Fin 528) (j : Fin 1024) : load1 m c xb (ix3 (0 : Fin 1) i j) = row m c (504 + i.val) j := by
  unfold load1 fill2
  rw [slot_apply 0 (by omega), bring_apply, dif_neg (by simp), bring_apply, dif_pos ⟨rfl, Nat.zero_le _, by omega⟩, rowsOf_apply _ _ _ _ _ _ _ (by dsimp only; omega)]
  rfl

theorem load2_apply (i : Fin 528) (j : Fin 1024) : load2 m c xb (ix3 (0 : Fin 1) i j) = row m c (1016 + i.val) j := by
  unfold load2 fill3 fill2
  rw [slot_apply 1 (by omega), bring_apply, dif_neg (by simp), bring_apply, dif_pos ⟨rfl, Nat.zero_le _, by omega⟩, rowsOf_apply _ _ _ _ _ _ _ (by dsimp only; omega)]
  rfl

theorem load3_apply (i : Fin 528) (hi : i.val < 520) (j : Fin 1024) : load3 m c xb (ix3 (0 : Fin 1) i j) = row m c (1528 + i.val) j := by
  unfold load3 fill4 fill3
  rw [slot_apply 0 (by omega), bring_apply, dif_neg (by simp), bring_apply, dif_pos ⟨rfl, Nat.zero_le _, by omega⟩, rowsOf_apply _ _ _ _ _ _ _ (by dsimp only; omega)]
  rfl

theorem load4_apply (i : Fin 528) (hi : 8 ≤ i.val) (j : Fin 1024) : load4 m c xb (ix3 (0 : Fin 1) i j) = row m c (i.val - 8) j := by
  unfold load4 fill4
  rw [slot_apply 1 (by omega), bring_apply, dif_pos ⟨rfl, hi, by omega⟩, rowsOf_apply _ _ _ _ _ _ _ (by dsimp only; omega)]
  exact congrArg (row m c · j) (Nat.zero_add _)

/-! ## The stored vectors -/

/-- Row `i` of 512 results from the 528 rows `v`: rows `7 + i`, `8 + i` and `9 + i` of `v`, mixed. -/
theorem pay_apply (v : Vec F S1x528x1024 .f32) (u : Fin 1) (i : Fin 512) (j : Fin 1024) :
    k0_pay1 v (ix3 u i j) = mix (v (ix3 (0 : Fin 1) (⟨7 + i.val, by omega⟩ : Fin 528) j)) (v (ix3 (0 : Fin 1) (⟨8 + i.val, by omega⟩ : Fin 528) j))
      (v (ix3 (0 : Fin 1) (⟨9 + i.val, by omega⟩ : Fin 528) j)) := by
  have e (r : ℕ) (h : S528x1024.Slices ![r, 0] S512x1024) (hr : r + i.val < 528) :
      extractStridedSlice S512x1024 ![r, 0] (shapeCast S528x1024 v shapeCasts_S1x528x1024_S528x1024) h (ix2 i j)
        = v (ix3 (0 : Fin 1) (⟨r + i.val, hr⟩ : Fin 528) j) :=
    (extract_rows _ r 512 h i j hr).trans (ValueIdx.shapeCast_1ab_ab_apply v shapeCasts_S1x528x1024_S528x1024 _ j)
  unfold k0_pay1
  refine (ValueIdx.shapeCast_ab_1ab_apply _ shapeCasts_S512x1024_S1x512x1024 u i j).trans ?_
  rw [← e 7 slices_S528x1024_o7_0_S512x1024 (by omega), ← e 8 slices_S528x1024_o8_0_S512x1024 (by omega), ← e 9 slices_S528x1024_o9_0_S512x1024 (by omega)]
  rfl

/-- One row taken out of the 528 rows `v`. -/
theorem extract_row (v : Vec F S1x528x1024 .f32) (r : ℕ) (h : S528x1024.Slices ![r, 0] S1x1024) (hr : r < 528) (u : Fin 1) (j : Fin 1024) :
    extractStridedSlice S1x1024 ![r, 0] (shapeCast S528x1024 v shapeCasts_S1x528x1024_S528x1024) h (ix2 u j)
      = v (ix3 (0 : Fin 1) (⟨r, hr⟩ : Fin 528) j) := by
  refine ((extract_rows _ r 1 h u j (by omega)).trans (ValueIdx.shapeCast_1ab_ab_apply v shapeCasts_S1x528x1024_S528x1024 _ j)).trans ?_
  exact congrArg (fun k : Fin 528 => v (ix3 (0 : Fin 1) k j)) (Fin.ext (by show r + u.val = r; omega))

/-- The device's number, as the program computes it. -/
abbrev place : BitVec 32 := Scalar.remsi (Scalar.divsi (Dev.word c) 1#32) 32#32

theorem isLast : (Scalar.cmpi .eq (place c) 31#32 = 1) ↔ ¬HasR c := by revert c; decide +kernel
theorem isFirst : (Scalar.cmpi .eq (place c) 0#32 = 1) ↔ ¬HasL c := by revert c; decide +kernel

/-- The block's last row of results, from its last two rows and the first that came from the right. -/
theorem last_apply (v : Vec F S1x528x1024 .f32) (w : Vec F S1x1024 .f32) (u u' : Fin 1) (j : Fin 1024) :
    k0_pay7 (place c) (k0_pay5 v) (k0_pay6 v) (FloatOps.ofBits .f32 0x3E800000#32) w (ix3 u u' j)
      = if ¬HasR c then v (ix3 (0 : Fin 1) (⟨519, by omega⟩ : Fin 528) j)
        else mix (v (ix3 (0 : Fin 1) (⟨518, by omega⟩ : Fin 528) j)) (v (ix3 (0 : Fin 1) (⟨519, by omega⟩ : Fin 528) j)) (w (ix2 u' j)) := by
  unfold k0_pay7
  refine (ValueIdx.shapeCast_ab_1ab_apply _ shapeCasts_S1x1024_S1x1x1024 u u' j).trans ?_
  rw [← extract_row v 519 slices_S528x1024_o519_0_S1x1024 (by omega) u' j, ← extract_row v 518 slices_S528x1024_o518_0_S1x1024 (by omega) u' j]
  unfold Scalar.select
  by_cases h : HasR c
  · rw [if_neg (by rw [isLast]; tauto), if_neg (by tauto)]; rfl
  · rw [if_pos ((isLast c).mpr h), if_pos h]; rfl

/-- The block's first row of results, from its first two rows and the last that came from the left. -/
theorem first_apply (v : Vec F S1x528x1024 .f32) (w : Vec F S1x1024 .f32) (u u' : Fin 1) (j : Fin 1024) :
    k0_pay10 (place c) v w (ix3 u u' j)
      = if ¬HasL c then v (ix3 (0 : Fin 1) (⟨8, by omega⟩ : Fin 528) j)
        else mix (w (ix2 u' j)) (v (ix3 (0 : Fin 1) (⟨8, by omega⟩ : Fin 528) j)) (v (ix3 (0 : Fin 1) (⟨9, by omega⟩ : Fin 528) j)) := by
  unfold k0_pay10
  refine (ValueIdx.shapeCast_ab_1ab_apply _ shapeCasts_S1x1024_S1x1x1024 u u' j).trans ?_
  rw [← extract_row v 8 slices_S528x1024_o8_0_S1x1024 (by omega) u' j, ← extract_row v 9 slices_S528x1024_o9_0_S1x1024 (by omega) u' j]
  unfold Scalar.select
  by_cases h : HasL c
  · rw [if_neg (by rw [isFirst]; tauto), if_neg (by tauto)]; rfl
  · rw [if_pos ((isFirst c).mpr h), if_pos h]; rfl

/-! ## The output's staging buffer, and the four copies out -/

variable (ob : cc0_scratch1.ty.Contents (Elt F)) (fn : cc0_scratch3.ty.Contents (Elt F)) (fp : cc0_scratch2.ty.Contents (Elt F))
  (ou : main_v1.ty.Contents (Elt F))

/-- The stores so far when each of the four copies out starts, the last store first. -/
def puts1 : List (View.Piece (Elt F) S2x512x1024 .f32) :=
  [⟨Rect.unit (s := S2x512x1024) ![0, 0, 0] S1x512x1024.size inb_S2x512x1024_S1x512x1024_0_0_0, k0_pay1 (load1 m c xb)⟩]
def puts2 : List (View.Piece (Elt F) S2x512x1024 .f32) :=
  ⟨Rect.unit (s := S2x512x1024) ![1, 0, 0] S1x512x1024.size inb_S2x512x1024_S1x512x1024_1_0_0, k0_pay2 (load2 m c xb)⟩ :: puts1 m c xb
def puts3 : List (View.Piece (Elt F) S2x512x1024 .f32) :=
  ⟨Rect.unit (s := S2x512x1024) ![0, 511, 0] S1x1x1024.size inb_S2x512x1024_S1x1x1024_0_511_0,
    k0_pay7 (place c) (k0_pay5 (load3 m c xb)) (k0_pay6 (load3 m c xb)) (FloatOps.ofBits .f32 0x3E800000#32)
      (nM.view.readAt (Elt F) (Rect.unit (s := S8x1024) ![0, 0] S1x1024.size inb_S8x1024_S1x1024_0_0).toLoadRect fn)⟩
    :: ⟨Rect.unit (s := S2x512x1024) ![0, 0, 0] S1x512x1024.size inb_S2x512x1024_S1x512x1024_0_0_0, k0_pay4 (load3 m c xb)⟩ :: puts2 m c xb
def puts4 : List (View.Piece (Elt F) S2x512x1024 .f32) :=
  ⟨Rect.unit (s := S2x512x1024) ![1, 0, 0] S1x1x1024.size inb_S2x512x1024_S1x1x1024_1_0_0,
    k0_pay10 (place c) (load4 m c xb)
      (pM.view.readAt (Elt F) (Rect.unit (s := S8x1024) ![7, 0] S1x1024.size inb_S8x1024_S1x1024_7_0).toLoadRect fp)⟩
    :: ⟨Rect.unit (s := S2x512x1024) ![1, 0, 0] S1x512x1024.size inb_S2x512x1024_S1x512x1024_1_0_0, k0_pay9 (load4 m c xb)⟩ :: puts3 m c xb fn

/-- Slot `s` of the staging buffer after the stores `L`, as a copy out reads it. -/
def sent (s : ℕ) (inb : ∀ a, (![s, 0, 0] : Fin 3 → ℕ) a + S1x512x1024.size a ≤ S2x512x1024.size a) (L : List (View.Piece (Elt F) S2x512x1024 .f32)) :
    S512x1024.Idx → Elt F .f32 :=
  ((bM.slice (Rect.unit (s := S2x512x1024) ![s, 0, 0] S1x512x1024.size inb) (fun _ => rfl)).squeeze S512x1024 squeezes_S1x512x1024_S512x1024).view.read
    (Elt F) (bM.view.writes (Elt F) ob L)

theorem sent_apply (s : ℕ) (hs : s < 2) (inb) (L : List (View.Piece (Elt F) S2x512x1024 .f32)) (i : Fin 512) (j : Fin 1024) :
    sent ob s inb L (ix2 i j) = bM.view.read (Elt F) (bM.view.writes (Elt F) ob L) (ix3 ⟨s, hs⟩ i j) := by
  refine (read_slotGrid bM s 0 512 inb (fun _ => rfl) squeezes_S1x512x1024_S512x1024 _ i j hs (by omega)).trans ?_
  exact congrArg (fun k => bM.view.read (Elt F) (bM.view.writes (Elt F) ob L) (ix3 ⟨s, hs⟩ k j)) (Fin.ext (Nat.zero_add _))

/-- Reading after one more store of `n` rows from row `r` of slot `s`. -/
theorem puts_apply (s r n : ℕ) (inb) (w : (⟨3, ![1, n, 1024]⟩ : Shape).Idx → Elt F .f32) (L : List (View.Piece (Elt F) S2x512x1024 .f32))
    (a : Fin 2) (i : Fin 512) (j : Fin 1024) :
    bM.view.read (Elt F) (bM.view.writes (Elt F) ob (⟨Rect.unit (s := S2x512x1024) ![s, r, 0] ![1, n, 1024] inb, w⟩ :: L)) (ix3 a i j)
      = if h : a.val = s ∧ r ≤ i.val ∧ i.val < r + n then w (ix3 (n0 := 1) (n1 := n) 0 ⟨i.val - r, by omega⟩ j)
        else bM.view.read (Elt F) (bM.view.writes (Elt F) ob L) (ix3 a i j) :=
  read_write_slot bM.view s r n inb (bM.view.writes (Elt F) ob L) w a i j

theorem sent1_apply (i : Fin 512) (j : Fin 1024) : sent ob 0 inb_S2x512x1024_S1x512x1024_0_0_0 (puts1 m c xb) (ix2 i j) = outRow m c (512 + i.val) j := by
  rw [sent_apply ob 0 (by omega), puts1]
  refine (puts_apply ob 0 0 512 _ _ _ _ i j).trans ?_
  rw [dif_pos ⟨rfl, Nat.zero_le _, by omega⟩, pay_apply, load1_apply, load1_apply, load1_apply, outRow_inner _ _ _ (by omega) (by omega)]
  simp only [Nat.sub_zero]
  congr 2 <;> omega

theorem sent2_apply (i : Fin 512) (j : Fin 1024) : sent ob 1 inb_S2x512x1024_S1x512x1024_1_0_0 (puts2 m c xb) (ix2 i j) = outRow m c (1024 + i.val) j := by
  rw [sent_apply ob 1 (by omega), puts2]
  refine (puts_apply ob 1 0 512 _ _ _ _ i j).trans ?_
  rw [dif_pos ⟨rfl, Nat.zero_le _, by omega⟩]
  refine (pay_apply _ _ _ _).trans ?_
  rw [load2_apply, load2_apply, load2_apply, outRow_inner _ _ _ (by omega) (by omega)]
  simp only [Nat.sub_zero]
  congr 2 <;> omega

theorem sent3_apply (hfn : HasR c → fn = landN m c) (i : Fin 512) (j : Fin 1024) :
    sent ob 0 inb_S2x512x1024_S1x512x1024_0_0_0 (puts3 m c xb fn) (ix2 i j) = outRow m c (1536 + i.val) j := by
  rw [sent_apply ob 0 (by omega), puts3]
  refine (puts_apply ob 0 511 1 _ _ _ _ i j).trans ?_
  split
  · rename_i h
    obtain rfl : i = (511 : Fin 512) := Fin.ext (by show i.val = 511; omega)
    rw [last_apply, load3_apply _ _ _ _ (by dsimp only; omega), load3_apply _ _ _ _ (by dsimp only; omega)]
    refine Eq.trans ?_ (outRow_last m c j).symm
    by_cases hR : HasR c
    · rw [if_neg (not_not.mpr hR), if_neg (not_not.mpr hR), hfn hR]
      refine congrArg (mix _ _) ?_
      refine (readAt_rows nM.view 0 1 _ (landN m c) _ j (by omega)).trans ?_
      refine (congrArg (X m (rgt c) : S2048x1024.Idx → F .f32) (rows_emb 0 8 inb_S2048x1024_S8x1024_0_0 _ j (by dsimp only; omega))).trans ?_
      exact row_eq m (rgt c) _ _ j
    · rw [if_pos hR, if_pos hR]; rfl
  · rename_i h
    have hi : i.val ≠ 511 := fun e => h ⟨rfl, by omega, by omega⟩
    refine (puts_apply ob 0 0 512 _ _ _ _ i j).trans ?_
    rw [dif_pos ⟨rfl, Nat.zero_le _, by omega⟩]
    refine (pay_apply _ _ _ _).trans ?_
    rw [load3_apply _ _ _ _ (by dsimp only; omega), load3_apply _ _ _ _ (by dsimp only; omega), load3_apply _ _ _ _ (by dsimp only; omega),
      outRow_inner _ _ _ (by omega) (by omega)]
    simp only [Nat.sub_zero]
    congr 2 <;> omega

theorem sent4_apply (hfp : HasL c → fp = landP m c) (i : Fin 512) (j : Fin 1024) :
    sent ob 1 inb_S2x512x1024_S1x512x1024_1_0_0 (puts4 m c xb fn fp) (ix2 i j) = outRow m c i.val j := by
  rw [sent_apply ob 1 (by omega), puts4]
  refine (puts_apply ob 1 0 1 _ _ _ _ i j).trans ?_
  split
  · rename_i h
    obtain rfl : i = (0 : Fin 512) := Fin.ext (by show i.val = 0; omega)
    rw [first_apply, load4_apply _ _ _ _ (by dsimp only; omega), load4_apply _ _ _ _ (by dsimp only; omega)]
    refine Eq.trans ?_ (outRow_first m c j).symm
    by_cases hL : HasL c
    · rw [if_neg (not_not.mpr hL), if_neg (not_not.mpr hL), hfp hL]
      refine congrArg (mix · _ _) ?_
      refine (readAt_rows pM.view 7 1 _ (landP m c) _ j (by omega)).trans ?_
      refine (congrArg (X m (lft c) : S2048x1024.Idx → F .f32) (rows_emb 2040 8 inb_S2048x1024_S8x1024_2040_0 _ j (by dsimp only; omega))).trans ?_
      exact row_eq m (lft c) _ _ j
    · rw [if_pos hL, if_pos hL]; rfl
  · rename_i h
    have hi : i.val ≠ 0 := fun e => h ⟨rfl, by omega, by omega⟩
    refine (puts_apply ob 1 0 512 _ _ _ _ i j).trans ?_
    rw [dif_pos ⟨rfl, Nat.zero_le _, by omega⟩]
    refine (pay_apply _ _ _ _).trans ?_
    rw [load4_apply _ _ _ _ (by dsimp only; omega), load4_apply _ _ _ _ (by dsimp only; omega), load4_apply _ _ _ _ (by dsimp only; omega),
      outRow_inner _ _ _ (by omega) (by omega)]
    simp only [Nat.sub_zero]
    congr 2 <;> omega

/-- What the four copies out leave in the block of the result, over contents `ou`. -/
def outW : main_v1.ty.Contents (Elt F) :=
  oM.view.writes (Elt F) ou
    [⟨Rect.unit (s := S2048x1024) ![0, 0] S512x1024.size inb_S2048x1024_S512x1024_0_0, sent ob 1 inb_S2x512x1024_S1x512x1024_1_0_0 (puts4 m c xb fn fp)⟩,
     ⟨Rect.unit (s := S2048x1024) ![1536, 0] S512x1024.size inb_S2048x1024_S512x1024_1536_0, sent ob 0 inb_S2x512x1024_S1x512x1024_0_0_0 (puts3 m c xb fn)⟩,
     ⟨Rect.unit (s := S2048x1024) ![1024, 0] S512x1024.size inb_S2048x1024_S512x1024_1024_0, sent ob 1 inb_S2x512x1024_S1x512x1024_1_0_0 (puts2 m c xb)⟩,
     ⟨Rect.unit (s := S2048x1024) ![512, 0] S512x1024.size inb_S2048x1024_S512x1024_512_0, sent ob 0 inb_S2x512x1024_S1x512x1024_0_0_0 (puts1 m c xb)⟩]

/-- Reading the block of the result after one more copy out, to its rows from `r`. -/
theorem outs_apply (r : ℕ) (inb) (w : S512x1024.Idx → Elt F .f32) (L : List (View.Piece (Elt F) S2048x1024 .f32)) (i : Fin 2048) (j : Fin 1024) :
    oM.view.read (Elt F) (oM.view.writes (Elt F) ou (⟨Rect.unit (s := S2048x1024) ![r, 0] ![512, 1024] inb, w⟩ :: L)) (ix2 i j)
      = if h : r ≤ i.val ∧ i.val < r + 512 then w (ix2 (n0 := 512) ⟨i.val - r, by omega⟩ j)
        else oM.view.read (Elt F) (oM.view.writes (Elt F) ou L) (ix2 i j) :=
  read_write_rows oM.view r 512 inb (oM.view.writes (Elt F) ou L) w i j

/-- Each row of the block of the result, read after the four copies out. -/
theorem outW_read (hfn : HasR c → fn = landN m c) (hfp : HasL c → fp = landP m c) (i : Fin 2048) (j : Fin 1024) :
    oM.view.read (Elt F) (outW m c xb ob fn fp ou) (ix2 i j) = outRow m c i.val j := by
  unfold outW
  refine (outs_apply ou 0 _ _ _ i j).trans ?_
  split
  · rw [sent4_apply _ _ _ _ _ _ hfp]; exact congrArg (outRow m c · j) (by dsimp only; omega)
  refine (outs_apply ou 1536 _ _ _ i j).trans ?_
  split
  · rw [sent3_apply _ _ _ _ _ hfn]; exact congrArg (outRow m c · j) (by dsimp only; omega)
  refine (outs_apply ou 1024 _ _ _ i j).trans ?_
  split
  · rw [sent2_apply]; exact congrArg (outRow m c · j) (by dsimp only; omega)
  refine (outs_apply ou 512 _ _ _ i j).trans ?_
  rw [dif_pos (by omega), sent1_apply]; exact congrArg (outRow m c · j) (by dsimp only; omega)

/-- Whatever the buffers held before, the block of the result ends as `outC`. -/
theorem outW_eq (hfn : HasR c → fn = landN m c) (hfp : HasL c → fp = landP m c) : outW m c xb ob fn fp ou = outC m c := by
  refine (View.read_whole main_v1 (outW m c xb ob fn fp ou)).symm.trans (funext fun p : S2048x1024.Idx => ?_)
  obtain ⟨i, j, rfl⟩ : ∃ (i : Fin 2048) (j : Fin 1024), p = ix2 i j := ⟨p 0, p 1, ValueIdx.eq_ix2 p⟩
  exact outW_read m c xb ob fn fp ou hfn hfp i j

end Cert.KernelIdeal.Halo

end
-- ==== Proof.KernelIdeal.Body.lean ====
/-
  One device's whole run of the kernel body, from the resources it starts with to those it leaves.
-/
module

public import proofs.«01_k».proof.Proof.KernelIdeal.Steps
public import proofs.«01_k».proof.Proof.KernelIdeal.Value

@[expose] public section

set_option maxRecDepth 16384

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 5 → ℕ) (c : Dev nD)

/-! ## What the body starts from -/

/-- Device `c` holds the buffer `b` whole at share `q`, with contents `f`. -/
abbrev held (b : Ref sig .tc) (q : PosShare TreeShare) (f : b.ty.Contents (Elt F)) : sProp 𝕄 :=
  (Memref.whole b).view.loc (c : Thread nD τ) ↦{q} f

/-- The tokens of the duties device `c` pays: its units at the neighbours' barrier cells, the departures of its two
    copies, and their arrivals. -/
def toks : sProp 𝕄 :=
  iprop(dutyTok ER (barCell (lft c)) 0 true ∗ dutyTok ER (barCell (rgt c)) 0 false ∗ dutyTok ER (depRCell c) 0 false
    ∗ dutyTok ER (depLCell c) 0 false ∗ dutyTok ER (arrPCell (rgt c)) 0 false ∗ dutyTok ER (arrNCell (lft c)) 0 false)
/-- The positions of device `c` at its five shared cells. -/
def posns : sProp 𝕄 :=
  iprop(atPos ER (barCell c) 0 ∅ 0 ∗ atPos ER (depRCell c) 0 ∅ 0 ∗ atPos ER (depLCell c) 0 ∅ 0
    ∗ atPos ER (arrPCell c) 0 ∅ 0 ∗ atPos ER (arrNCell c) 0 ∅ 0)
/-- The credit of the copy that arrives before, and of the one that arrives after, device `c`'s block. -/
def credP : sProp 𝕄 := if HasL c then cred (tallyAt (arrPCell c) () N) else iprop(emp)
def credN : sProp 𝕄 := if HasR c then cred (tallyAt (arrNCell c) () N) else iprop(emp)
/-- The four cells of the device's local copies, at zero. -/
def locals : sProp 𝕄 :=
  iprop(semVal ((c : Thread nD τ), .dma (sem0 cc0_scratch4)) 0 ∗ semVal ((c : Thread nD τ), .dma (sem1 cc0_scratch4)) 0
    ∗ semVal ((c : Thread nD τ), .dma (sem0 cc0_scratch5)) 0 ∗ semVal ((c : Thread nD τ), .dma (sem1 cc0_scratch5)) 0)
/-- The five shared cells, closed at zero. -/
def closed : sProp 𝕄 :=
  iprop(semVal (barCell c) 0 ∗ semVal (depRCell c) 0 ∗ semVal (depLCell c) 0 ∗ semVal (arrPCell c) 0 ∗ semVal (arrNCell c) 0)
/-- The input, split into the shares the copies take. -/
def input : sProp 𝕄 := iprop(held c main_arg0 qA (X m c) ∗ held c main_arg0 qB (X m c) ∗ ptsR m c ∗ ptsL m c)

/-- What device `c` has when the body starts. -/
def startRes (W : Waits sig Unit) : sProp 𝕄 :=
  iprop(recs m K ∗ levAts L lv ∗ owes (c : Thread nD τ) (O₀ c) W ∗ toks c ∗ posns c ∗ credBL c ∗ credBR c ∗ credP c ∗ credN c
    ∗ locals c ∗ input m c ∗ (∃ xb, held c cc0_scratch0 fullShare xb) ∗ (∃ ob, held c cc0_scratch1 fullShare ob)
    ∗ (∃ f, ptsP c f) ∗ (∃ f, ptsN c f) ∗ ∃ ou, held c main_v1 fullShare ou)

/-- What device `c` has when the body ends: every cell back at zero, the input as it was, and the result. -/
def endRes : sProp 𝕄 :=
  iprop((∃ W, owes (c : Thread nD τ) 0 W) ∗ closed c ∗ locals c ∗ input m c ∗ (∃ f, held c cc0_scratch0 fullShare f) ∗ (∃ f, held c cc0_scratch1 fullShare f)
    ∗ (∃ f, held c cc0_scratch2 fullShare f) ∗ (∃ f, held c cc0_scratch3 fullShare f) ∗ held c main_v1 fullShare (outC m c))

/-! ## Small steps between the rules -/

/-- A thing held where `A` is the case and one held where it is not, together. -/
theorem either {A : Prop} [Decidable A] (P R : sProp 𝕄) :
    iprop((if A then P else iprop(emp)) ∗ (if A then iprop(emp) else R)) ⊢ if A then P else R := by
  by_cases h : A
  · simp only [if_pos h]; iintro ⟨H, -⟩; iexact H
  · simp only [if_neg h]; iintro ⟨-, H⟩; iexact H

/-- After the wait for it: the buffer for the rows before the block, with the left neighbour's rows if there is one. -/
theorem arrivedP : (if HasL c then (rd (F := F) m).payload (arrPCell c) 0 false else iprop(∃ f, ptsP (F := F) c f))
    ⊢ iprop(∃ f : cc0_scratch2.ty.Contents (Elt F), ⌜HasL c → f = landP m c⌝ ∗ held c cc0_scratch2 fullShare f) := by
  by_cases h : HasL c
  · simp only [if_pos h, payload_arrP]; unfold ptsP; iintro H; iexists landP m c
    isplitr; · ipureintro; exact fun _ => rfl
    iexact H
  · simp only [if_neg h]; unfold ptsP; iintro ⟨%f, H⟩; iexists f
    isplitr; · ipureintro; exact fun h' => absurd h' h
    iexact H
/-- After the wait for it: the buffer for the rows after the block, with the right neighbour's rows if there is one. -/
theorem arrivedN : (if HasR c then (rd (F := F) m).payload (arrNCell c) 0 false else iprop(∃ f, ptsN (F := F) c f))
    ⊢ iprop(∃ f : cc0_scratch3.ty.Contents (Elt F), ⌜HasR c → f = landN m c⌝ ∗ held c cc0_scratch3 fullShare f) := by
  by_cases h : HasR c
  · simp only [if_pos h, payload_arrN]; unfold ptsN; iintro H; iexists landN m c
    isplitr; · ipureintro; exact fun _ => rfl
    iexact H
  · simp only [if_neg h]; unfold ptsN; iintro ⟨%f, H⟩; iexists f
    isplitr; · ipureintro; exact fun h' => absurd h' h
    iexact H
/-- After the wait for a departure the rows are back. -/
theorem backR : (if HasR c then (rd (F := F) m).payload (depRCell c) 0 false else ptsR m c) ⊢ ptsR m c := by
  rw [payload_depR]; split <;> exact .rfl
theorem backL : (if HasL c then (rd (F := F) m).payload (depLCell c) 0 false else ptsL m c) ⊢ ptsL m c := by
  rw [payload_depL]; split <;> exact .rfl

/-- The words the program branches on: whether there is a left, a right neighbour. -/
theorem sgt_iff : Scalar.cmpi .ne (Scalar.extui (Scalar.cmpi .sgt (Scalar.remsi (Scalar.divsi (Dev.word c) 1#32) 32#32) 0#32) : BitVec 32) 0#32 = 1#1 ↔ HasL c := by
  revert c; decide +kernel
theorem slt_iff : Scalar.cmpi .ne (Scalar.extui (Scalar.cmpi .slt (Scalar.remsi (Scalar.divsi (Dev.word c) 1#32) 32#32) 31#32) : BitVec 32) 0#32 = 1#1 ↔ HasR c := by
  revert c; decide +kernel

abbrev body : Prog (TpuEff nD τ sig (Elt F) Λ₀ .tc) PUnit :=
  cc0_body (Memref.whole main_arg0) (Memref.isWhole_whole _) (Memref.whole main_v1) (Memref.isWhole_whole _)
   (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7

set_option maxHeartbeats 2000000 in
/-- The body takes a device from `startRes` to `endRes`. -/
theorem walk (W : Waits sig Unit) :
    startRes m K c W ⊢ wp frame (wpE (defs₀ (F := F)) 𝒱₀ (c : Thread nD τ) none) Set.univ (body (F := F)) (fun _ => endRes m c) := by
  unfold body
  simp only [cc0_body_eq_skeleton]; unfold cc0_body_skel
  simp only [wp_bind]
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold startRes endRes closed toks posns locals input O₀
  iintro ⟨#HR, #HL, HO, ⟨Ht1, Ht2, Ht3, Ht4, Ht5, Ht6⟩, ⟨Hab, HaR, HaL, HaP, HaN⟩, HcL, HcR, HcP, HcN, ⟨Hi0, Hi1, Ho0, Ho1⟩, ⟨HxA, HxB, HxR, HxL⟩, ⟨%xb, Hxb⟩, ⟨%ob, Hob⟩, Hp, Hn, ⟨%ou, Hou⟩⟩
  iapply (wp_sigL m K c _ W) $$ [HO Ht1 Hp]
  · isplitr; · iexact HR
    isplitl [HO]; · iexact HO
    isplitl [Ht1] <;> iassumption
  iintro ⟨HO, Hp⟩
  iapply (wp_sigR m K c _ W) $$ [HO Ht2 Hn]
  · isplitr; · iexact HR
    isplitl [HO]; · iexact HO
    isplitl [Ht2] <;> iassumption
  iintro ⟨HO, Hn⟩
  iapply (wp_waitBar m K c (sgt_iff c) (slt_iff c) W) $$ [HO HcL HcR Hab]
  · isplitr; · iexact HR
    isplitr; · iexact HL
    isplitl [HO]; · iexact HO
    isplitl [HcL]; · iexact HcL
    isplitl [HcR] <;> iassumption
  iintro %W1 ⟨HO, Hzb, HlN, HlP⟩
  iapply (wp_copyR m K c _ W1) $$ [HO HxR HlP Ht3 Ht5]
  · isplitr; · iexact HR
    isplitl [HxR]; · iexact HxR
    isplitl [HlP]; · iexact HlP
    isplitl [HO]; · iexact HO
    isplitl [Ht3] <;> iassumption
  iintro ⟨HxR, HO⟩
  ihave HO := (Entails.of_eq (congrArg (fun O => (owes (c : Thread nD τ) O W1 : sProp 𝕄)) (zero_add (dueL c)).symm)) $$ HO
  iapply (wp_copyL m K c _ W1) $$ [HO HxL HlN Ht4 Ht6]
  · isplitr; · iexact HR
    isplitl [HxL]; · iexact HxL
    isplitl [HlN]; · iexact HlN
    isplitl [HO]; · iexact HO
    isplitl [Ht4] <;> iassumption
  iintro ⟨HxL, HO⟩
  set_option sl_exec.dmaWindow true in set_option sl_exec.dmaWindowLent true in sl_exec
  ihave Hn := (either (F := F) (A := HasR c) (cred (tallyAt (arrNCell c) () N)) iprop(∃ f, ptsN c f)) $$ [HcN Hn]
  · isplitl [HcN]; · unfold credN; iexact HcN
    iexact Hn
  iapply (wp_waitCopy m K c 4 arrN rfl (C := HasR c) (slt_iff c) (dutiesOf_arrN c) (dst := nM) (show (nM : Memref sig .tc .vmem S8x1024 .f32).view.dmaCredit = N from rfl) iprop(∃ f, ptsN c f) _) $$ [Hn HO HaN]
  · isplitr; · iexact HR
    isplitl [Hn]; · iexact Hn
    isplitl [HO] <;> iassumption
  iintro %W2 ⟨Hn, HO, HzN⟩
  ihave Hn := (arrivedN m c) $$ Hn
  icases Hn with ⟨%fn, %hfn, Hn⟩
  set_option sl_exec.dmaWindow true in set_option sl_exec.dmaWindowLent true in sl_exec
  ihave Hp := (either (F := F) (A := HasL c) (cred (tallyAt (arrPCell c) () N)) iprop(∃ f, ptsP c f)) $$ [HcP Hp]
  · isplitl [HcP]; · unfold credP; iexact HcP
    iexact Hp
  iapply (wp_waitCopy m K c 3 arrP rfl (C := HasL c) (sgt_iff c) (dutiesOf_arrP c) (dst := pM) (show (pM : Memref sig .tc .vmem S8x1024 .f32).view.dmaCredit = N from rfl) iprop(∃ f, ptsP c f) _) $$ [Hp HO HaP]
  · isplitr; · iexact HR
    isplitl [Hp]; · iexact Hp
    isplitl [HO] <;> iassumption
  iintro %W3 ⟨Hp, HO, HzP⟩
  ihave Hp := (arrivedP m c) $$ Hp
  icases Hp with ⟨%fp, %hfp, Hp⟩
  set_option sl_exec.dmaWindow true in set_option sl_exec.dmaWindowLent true in sl_exec
  iapply (wp_waitCopy m K c 1 depR rfl (C := HasR c) (slt_iff c) (dutiesOf_depR c) (dst := xR) (show (xR : Memref sig .tc .hbm S8x1024 .f32).view.dmaCredit = N from rfl) (ptsR m c) _) $$ [HxR HO HaR]
  · isplitr; · iexact HR
    isplitl [HxR]; · iexact HxR
    isplitl [HO] <;> iassumption
  iintro %W4 ⟨HxR, HO, HzR⟩
  ihave HxR := (backR m c) $$ HxR
  iapply (wp_waitCopy m K c 2 depL rfl (C := HasL c) (sgt_iff c) (dutiesOf_depL c) (dst := xL) (show (xL : Memref sig .tc .hbm S8x1024 .f32).view.dmaCredit = N from rfl) (ptsL m c) _) $$ [HxL HO HaL]
  · isplitr; · iexact HR
    isplitl [HxL]; · iexact HxL
    isplitl [HO] <;> iassumption
  iintro %W5 ⟨HxL, HO, HzL⟩
  ihave HxL := (backL m c) $$ HxL
  sl_step
  have hout : oM.view.writes (Elt F) ou
      [⟨Rect.unit (s := S2048x1024) ![0, 0] S512x1024.size inb_S2048x1024_S512x1024_0_0, walk.sl.dma6_3 m c xb ob fn fp⟩,
       ⟨Rect.unit (s := S2048x1024) ![1536, 0] S512x1024.size inb_S2048x1024_S512x1024_1536_0, walk.sl.dma6_2 m c xb ob fn⟩,
       ⟨Rect.unit (s := S2048x1024) ![1024, 0] S512x1024.size inb_S2048x1024_S512x1024_1024_0, walk.sl.dma6 m c xb ob⟩,
       ⟨Rect.unit (s := S2048x1024) ![512, 0] S512x1024.size inb_S2048x1024_S512x1024_512_0, walk.sl.dma3 m c xb ob⟩] = outC m c :=
    outW_eq m c xb ob fn fp ou hfn hfp
  ihave Hou := (Entails.of_eq (congrArg (held c main_v1 fullShare) hout)) $$ Hou
  isplitl [HO]; · iexists _; iexact HO
  isplitl [Hzb HzR HzL HzP HzN]
  · isplitl [Hzb]; · iexact Hzb
    isplitl [HzR]; · iexact HzR
    isplitl [HzL]; · iexact HzL
    isplitl [HzP] <;> iassumption
  isplitl [Hi0 Hi1 Ho0 Ho1]
  · isplitl [Hi0]; · iexact Hi0
    isplitl [Hi1]; · iexact Hi1
    isplitl [Ho0]; · iexact Ho0
    iexact Ho1
  isplitl [HxA HxB HxR HxL]
  · isplitl [HxA]; · iexact HxA
    isplitl [HxB]; · iexact HxB
    isplitl [HxR]; · iexact HxR
    iexact HxL
  isplitl [Hxb]; · iexists _; iexact Hxb
  isplitl [Hob]; · iexists _; iexact Hob
  isplitl [Hp]; · iexists _; iexact Hp
  isplitl [Hn]; · iexists _; iexact Hn
  iexact Hou

end Cert.KernelIdeal.Halo

end
-- ==== Proof.KernelIdeal.Ghost.lean ====
/-
  The protocol's resources at launch: minting the cells' round state and the tokens of the duties, allocating the
  cells' invariants, dealing each token to the device that pays its duty, and sorting the launch credit.
-/
module

public import proofs.«01_k».proof.Proof.KernelIdeal.Body
public import proofs.«01_k».proof.Proof.Gen.KernelIdeal.Launch

@[expose] public section

set_option maxRecDepth 16384

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Cells and tokens -/

/-- A cell's device and semaphore can be read off it. -/
theorem cell_iff {sm : SemLoc sig} {a b : Dev nD} : (((a : Thread nD τ), sm) : GSem nD τ sig) = ((b : Thread nD τ), sm) ↔ a = b :=
  ⟨fun h => congrArg (fun g : GSem nD τ sig => g.1.1) h, fun h => h ▸ rfl⟩

theorem kcell_inj : Function.Injective (kcell : Dev nD × Fin 5 → GSem nD τ sig) := by
  rintro ⟨a, i⟩ ⟨b, j⟩ h
  have hd : a = b := congrArg (fun g : GSem nD τ sig => g.1.1) h
  have hs : csem i = csem j := congrArg Prod.snd h
  have hi : i = j := by clear h; revert hs; revert i j; decide
  rw [hd, hi]

/-- The six tokens minted for the cells of one device: two for its barrier cell, one for each copy cell. -/
abbrev tokSem : Fin 6 → SemLoc sig × Bool := fun
  | 0 => (.reg barS, true) | 1 => (.reg barS, false) | 2 => (.dma depR, false) | 3 => (.dma depL, false) | 4 => (.dma arrP, false) | 5 => (.dma arrN, false)
abbrev ktok (cj : Dev nD × Fin 6) : GSem nD τ sig × ℕ × Bool := (((cj.1 : Thread nD τ), (tokSem cj.2).1), 0, (tokSem cj.2).2)

theorem ktok_inj : Function.Injective (ktok : Dev nD × Fin 6 → GSem nD τ sig × ℕ × Bool) := by
  rintro ⟨a, i⟩ ⟨b, j⟩ h
  have hd : a = b := congrArg (fun x : GSem nD τ sig × ℕ × Bool => x.1.1.1) h
  have hs : tokSem i = tokSem j :=
    Prod.ext (congrArg (fun x : GSem nD τ sig × ℕ × Bool => x.1.2) h) (congrArg (fun x : GSem nD τ sig × ℕ × Bool => x.2.2) h)
  have hi : i = j := by clear h; revert hs; revert i j; decide
  rw [hd, hi]

def haloCells : Finset (GSem nD τ sig) := Finset.univ.map ⟨kcell, kcell_inj⟩
def haloToks : Finset (GSem nD τ sig × ℕ × Bool) := Finset.univ.map ⟨ktok, ktok_inj⟩

/-- What is owned at launch, beside the machine's own: the pipeline library's part, and the protocol's. -/
def u₀ : UU := (initOf (Pipeline.cells cfgs cellOf_inj) (Pipeline.launchToks cfgs cellOf_inj), (initOf haloCells haloToks, 1))

/-- The tokens of device `c`'s own cells. -/
def ownToks (c : Dev nD) : sProp 𝕄 :=
  iprop(dutyTok ER (barCell c) 0 true ∗ dutyTok ER (barCell c) 0 false ∗ dutyTok ER (depRCell c) 0 false
    ∗ dutyTok ER (depLCell c) 0 false ∗ dutyTok ER (arrPCell c) 0 false ∗ dutyTok ER (arrNCell c) 0 false)

/-- What the launch deals device `c`: its cells' round state, its positions at them, that they stand at their first
    round, and their tokens. -/
def dealt (c : Dev nD) : sProp 𝕄 :=
  iprop((bigSep Finset.univ fun k : Fin 5 => roundState ER (rd m) (kcell (c, k)) 0)
    ∗ (bigSep Finset.univ fun k : Fin 5 => iprop(atPos ER (kcell (c, k)) 0 ∅ 0 ∗ reached ER (kcell (c, k)) 0)) ∗ ownToks c)

/-- What a device has of the protocol once the cells are shared: the records, the tokens it pays with, its positions. -/
def shared (c : Dev nD) : sProp 𝕄 := iprop((∃ K, recs m K) ∗ toks c ∗ posns c ∗ locals c)

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem over_cells (Φ : GSem nD τ sig → sProp 𝕄) :
    bigSep haloCells Φ = bigSep Finset.univ fun c : Dev nD => bigSep Finset.univ fun k : Fin 5 => Φ (kcell (c, k)) := by
  unfold haloCells; rw [bigSep_map, bigSep_univ_prod]; rfl
theorem over_toks :
    bigSep haloToks (fun x => (dutyTok ER x.1 x.2.1 x.2.2 : sProp 𝕄)) = bigSep Finset.univ fun c : Dev nD => ownToks c := by
  unfold haloToks; rw [bigSep_map, bigSep_univ_prod]
  exact bigSep_congr fun c _ => by unfold ownToks; rw [bigSep_six]; rfl

/-- The launch element of the protocol is every device's share of it. -/
theorem fund_halo : BI.own (ER (initOf haloCells haloToks)) ⊢ (|==> bigSep Finset.univ (dealt m) : sProp 𝕄) := by
  iintro HX
  imod (Rounds.fund ER (rd m) haloCells haloToks) $$ HX with ⟨Hst, Hr, Hat, Htok⟩
  imodintro
  ihave Hst := (Entails.of_eq (over_cells fun g => roundState ER (rd m) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold dealt; simp only [bigSep_sep']
  isplitl [Hst]; · iexact Hst
  isplitl [Hat Hr]
  · isplitl [Hat] <;> iassumption
  iexact Htok

/-! ## Semaphores -/

theorem ownSems0_eq (c : Dev nD) : (Pipeline.ownSems0 (Ix := Unit) (Name := ℕ) (U := UU) (Lvl := ℕ) (Val := Elt F) (τ := τ) osem c : sProp 𝕄)
    = iprop(semVal ((c : Thread nD τ), .dma (sem0 cc0_scratch4)) 0 ∗ semVal ((c : Thread nD τ), .dma (sem1 cc0_scratch4)) 0
        ∗ semVal ((c : Thread nD τ), .dma (sem0 cc0_scratch5)) 0 ∗ semVal ((c : Thread nD τ), .dma (sem1 cc0_scratch5)) 0
        ∗ semVal (depRCell c) 0 ∗ semVal (depLCell c) 0 ∗ semVal (arrPCell c) 0 ∗ semVal (arrNCell c) 0) := by
  rw [Pipeline.ownSems0_eq_of_list c osem [0, 1, 2, 3, 4, 5, 6, 7] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores at launch are its local ones and its five shared ones. -/
theorem sems_sort (c : Dev nD) :
    iprop(Pipeline.ownSems0 (Ix := Unit) (Name := ℕ) (U := UU) (Lvl := ℕ) (Val := Elt F) (τ := τ) osem c ∗ unscopedSems0 c)
      ⊢ (iprop(locals c ∗ bigSep Finset.univ fun k : Fin 5 => semVal (kcell (c, k)) 0) : sProp 𝕄) := by
  rw [ownSems0_eq, unscopedSems0_eq, bigSep_five]; unfold locals
  iintro ⟨⟨H0, H1, H2, H3, HdR, HdL, HaP, HaN⟩, HB⟩
  isplitl [H0 H1 H2 H3]
  · isplitl [H0]; · iexact H0
    isplitl [H1]; · iexact H1
    isplitl [H2]; · iexact H2
    iexact H3
  isplitl [HB]; · iexact HB
  isplitl [HdR]; · iexact HdR
  isplitl [HdL]; · iexact HdL
  isplitl [HaP]; · iexact HaP
  iexact HaN

/-- Sharing a device's five cells. -/
theorem share_cells (c : Dev nD) :
    iprop((bigSep Finset.univ fun k : Fin 5 => semVal (kcell (c, k)) 0) ∗ bigSep Finset.univ fun k : Fin 5 => roundState ER (rd m) (kcell (c, k)) 0)
      ⊢ (|={Set.univ}=> bigSep Finset.univ fun k => iprop(∃ κ : ℕ, cellInv ER (rd m) κ (kcell (c, k))) : sProp 𝕄) := by
  rw [← bigSep_sep']
  exact (bigSep_mono fun k _ => (Rounds.body_intro ER (rd m) (kcell (c, k))).trans inv_alloc).trans (bigSep_fupd _ _)

theorem core_share (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ ownToks c ∗ locals c) := by
  unfold dealt
  iintro ⟨Hos, Hus, Hst, Hat, Htok⟩
  ihave Hv := (sems_sort (F := F) c) $$ [Hos Hus]
  · isplitl [Hos] <;> iassumption
  icases Hv with ⟨Hl, Hv⟩
  imod (share_cells m c) $$ [Hv Hst] with Hinv
  · isplitl [Hv] <;> iassumption
  imodintro
  isplitl [Hinv]; · iexact Hinv
  isplitl [Hat]; · iexact Hat
  isplitl [Htok] <;> iassumption

/-- The tokens dealt along the line: those of a device's barrier and arrival cells go to the neighbour that pays them. -/
theorem deal : (bigSep Finset.univ fun c : Dev nD => (ownToks c : sProp 𝕄)) ⊢ bigSep Finset.univ fun c : Dev nD => toks c := by
  unfold ownToks toks
  simp only [bigSep_sep']
  rw [bigSep_univ_equiv ring.symm (fun c : Dev nD => (dutyTok ER (barCell c) 0 true : sProp 𝕄)),
    bigSep_univ_equiv ring (fun c : Dev nD => (dutyTok ER (barCell c) 0 false : sProp 𝕄)),
    bigSep_univ_equiv ring (fun c : Dev nD => (dutyTok ER (arrPCell c) 0 false : sProp 𝕄)),
    bigSep_univ_equiv ring.symm (fun c : Dev nD => (dutyTok ER (arrNCell c) 0 false : sProp 𝕄))]
  exact .rfl

/-- A persistent fact beside a family goes to each of its members. -/
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem shared_intro (K : Dev nD × Fin 5 → ℕ) (c : Dev nD) :
    iprop(recs m K ∗ (bigSep Finset.univ fun k : Fin 5 => atPos ER (kcell (c, k)) 0 ∅ 0) ∗ toks c ∗ locals c) ⊢ shared m c := by
  rw [bigSep_five]; unfold shared posns
  iintro ⟨#HR, Hat, Ht, Hl⟩
  isplitr; · iexists K; iexact HR
  isplitl [Ht]; · iexact Ht
  isplitl [Hat]; · iexact Hat
  iexact Hl

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ ownToks c ∗ locals c) : sProp 𝕄)
      ⊢ bigSep Finset.univ (shared m) := by
  rw [bigSep_sep', bigSep_sep', bigSep_sep', ← bigSep_univ_prod (fun ck : Dev nD × Fin 5 => iprop(∃ κ : ℕ, cellInv ER (rd m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok, Hl⟩
  ihave HK := (BI.bigSep_exists_pi Finset.univ (fun (ck : Dev nD × Fin 5) (κ : ℕ) => (cellInv ER (rd m) κ (kcell ck) : sProp 𝕄))) $$ HI
  icases HK with ⟨%K, #HI⟩
  ihave Htk := (deal (F := F)) $$ Htok
  iapply (spread (R := recs m K) fun c _ => shared_intro m K c)
  isplitr
  · unfold recs; isplitl; · iexact HI
    iexact HR
  simp only [bigSep_sep']
  isplitl [Hat]; · iexact Hat
  isplitl [Htk] <;> iassumption

/-- The one step taken for all devices together. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (shared m) :=
  ((bigSep_mono fun c _ => core_share m c).trans (bigSep_fupd _ _)).trans (BI.fupd_mono (regroup m))

/-! ## The credit at launch -/

/-- A cell other than the one a due names is owed nothing by it. -/
theorem due_other {P : Prop} [Decidable P] {g g' : GSem nD τ sig} (h : g' ≠ g) (n : ℕ) :
    (if P then tallyAt g () n else 0 : CellTallies nD τ sig Unit) g' () = 0 := by
  split
  · rw [tallyAt_ne_cell h]; rfl
  · rfl
/-- What a device owes to a cell of its right neighbour, met at device `c`: only the left neighbour owes it. -/
theorem due_right (sm : SemLoc sig) (n : ℕ) (d c : Dev nD) :
    (if HasR d then tallyAt ((rgt d : Thread nD τ), sm) () n else 0 : CellTallies nD τ sig Unit) ((c : Thread nD τ), sm) ()
      = if d = lft c then (if HasL c then n else 0) else 0 := by
  by_cases h : d = lft c
  · subst h; rw [if_pos rfl, rgt_lft]
    by_cases hl : HasL c
    · rw [if_pos hl, if_pos ((hasR_lft c).mpr hl), tallyAt_apply, if_pos ⟨rfl, rfl⟩]
    · rw [if_neg hl, if_neg fun h' => hl ((hasR_lft c).mp h')]; rfl
  · rw [if_neg h]; exact due_other (fun h' => h (by rw [cell_iff.mp h', lft_rgt])) n
theorem due_left (sm : SemLoc sig) (n : ℕ) (d c : Dev nD) :
    (if HasL d then tallyAt ((lft d : Thread nD τ), sm) () n else 0 : CellTallies nD τ sig Unit) ((c : Thread nD τ), sm) ()
      = if d = rgt c then (if HasR c then n else 0) else 0 := by
  by_cases h : d = rgt c
  · subst h; rw [if_pos rfl, lft_rgt]
    by_cases hr : HasR c
    · rw [if_pos hr, if_pos ((hasL_rgt c).mpr hr), tallyAt_apply, if_pos ⟨rfl, rfl⟩]
    · rw [if_neg hr, if_neg fun h' => hr ((hasL_rgt c).mp h')]; rfl
  · rw [if_neg h]; exact due_other (fun h' => h (by rw [cell_iff.mp h', rgt_lft])) n

theorem O₀_apply (d : Dev nD) (g : GSem nD τ sig) : O₀ d g () = dueL d g () + dueR d g () + dueBR d g () + dueBL d g () := by
  unfold O₀; rw [Pi.add_apply, Finsupp.add_apply, Pi.add_apply, Finsupp.add_apply, Pi.add_apply, Finsupp.add_apply]

/-- The units and credits all devices owe to device `c`'s barrier cell and arrival cells. -/
theorem owed_bar (c : Dev nD) : ∑ d : Dev nD, O₀ d (barCell c) () = (if HasL c then 1 else 0) + (if HasR c then 1 else 0) := by
  have h (d : Dev nD) : O₀ d (barCell c) () = (if d = lft c then (if HasL c then 1 else 0) else 0) + (if d = rgt c then (if HasR c then 1 else 0) else 0) := by
    rw [O₀_apply]; unfold dueL dueR dueBR dueBL
    rw [due_right (.reg barS) 1 d c, due_left (.reg barS) 1 d c, due_other (fun h => arrN_ne_bar (congrArg Prod.snd h).symm),
      due_other (fun h => arrP_ne_bar (congrArg Prod.snd h).symm), Nat.zero_add]
  rw [Finset.sum_congr rfl fun d _ => h d, Finset.sum_add_distrib, Finset.sum_ite_eq' Finset.univ (lft c), Finset.sum_ite_eq' Finset.univ (rgt c),
    if_pos (Finset.mem_univ _), if_pos (Finset.mem_univ _)]
theorem arrP_ne_arrN : (SemLoc.dma arrP : SemLoc sig) ≠ .dma arrN := by decide
theorem owed_arrP (c : Dev nD) : ∑ d : Dev nD, O₀ d (arrPCell c) () = if HasL c then N else 0 := by
  have h (d : Dev nD) : O₀ d (arrPCell c) () = if d = lft c then (if HasL c then N else 0) else 0 := by
    rw [O₀_apply]; unfold dueL dueR dueBR dueBL
    rw [due_right (.dma arrP) N d c, due_other (fun h => arrP_ne_arrN (congrArg Prod.snd h)),
      due_other (fun h => arrP_ne_bar (congrArg Prod.snd h)), due_other (fun h => arrP_ne_bar (congrArg Prod.snd h)), Nat.zero_add, Nat.add_zero]
  rw [Finset.sum_congr rfl fun d _ => h d, Finset.sum_ite_eq' Finset.univ (lft c), if_pos (Finset.mem_univ _)]
theorem owed_arrN (c : Dev nD) : ∑ d : Dev nD, O₀ d (arrNCell c) () = if HasR c then N else 0 := by
  have h (d : Dev nD) : O₀ d (arrNCell c) () = if d = rgt c then (if HasR c then N else 0) else 0 := by
    rw [O₀_apply]; unfold dueL dueR dueBR dueBL
    rw [due_left (.dma arrN) N d c, due_other (fun h => arrP_ne_arrN (congrArg Prod.snd h).symm),
      due_other (fun h => arrN_ne_bar (congrArg Prod.snd h)), due_other (fun h => arrN_ne_bar (congrArg Prod.snd h)), Nat.add_zero]
  rw [Finset.sum_congr rfl fun d _ => h d, Finset.sum_ite_eq' Finset.univ (rgt c), if_pos (Finset.mem_univ _)]

/-- A cell's launch credit is what all devices owe it. -/
theorem launch_at (g : GSem nD τ sig) {n : ℕ} (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- A credit of a number that is nought unless `A`. -/
theorem cred_if {A : Prop} [Decidable A] (g : GSem nD τ sig) (n : ℕ) :
    (cred (tallyAt g () (if A then n else 0)) : sProp 𝕄) = if A then cred (tallyAt g () n) else iprop(emp) := by
  split
  · rfl
  · rw [tallyAt_zero, cred_zero]

/-- The launch credit of the three cells other devices pay. -/
theorem creds_three (c : Dev nD) : (Pipeline.launchCred O₀ c : sProp 𝕄)
    ⊢ iprop(cred (tallyAt (barCell c) () ((if HasL c then 1 else 0) + (if HasR c then 1 else 0)))
        ∗ cred (tallyAt (arrPCell c) () (if HasL c then N else 0)) ∗ cred (tallyAt (arrNCell c) () (if HasR c then N else 0))) := by
  have h : bigSep {SemLoc.reg barS, SemLoc.dma arrP, SemLoc.dma arrN}
        (fun sm : SemLoc sig => (cred (tallyOn ((c : Thread nD τ), sm) (launchCredit (Pipeline.owing O₀) 0 ((c : Thread nD τ), sm))) : sProp 𝕄))
      = iprop(cred (tallyAt (barCell c) () ((if HasL c then 1 else 0) + (if HasR c then 1 else 0)))
        ∗ cred (tallyAt (arrPCell c) () (if HasL c then N else 0)) ∗ cred (tallyAt (arrNCell c) () (if HasR c then N else 0))) := by
    rw [BI.bigSep_insert (by decide), BI.bigSep_insert (by decide), bigSep_singleton,
      launch_at (barCell c) (owed_bar c), launch_at (arrPCell c) (owed_arrP c), launch_at (arrNCell c) (owed_arrN c)]
    rfl
  rw [← h]
  exact bigSep_subset (Finset.subset_univ _)

/-- The launch credit, sorted. -/
theorem creds (c : Dev nD) : (Pipeline.launchCred O₀ c : sProp 𝕄) ⊢ iprop(credBL c ∗ credBR c ∗ credP c ∗ credN c) := by
  refine (creds_three c).trans ?_
  rw [← tallyAt_add]
  unfold credBL credBR credP credN
  rw [cred_if, cred_if]
  iintro ⟨HB, HP, HN⟩
  ihave HB := (cred_add _ _).1 $$ HB
  icases HB with ⟨HL, HR⟩
  ihave HL := (Entails.of_eq (cred_if (F := F) (A := HasL c) (barCell c) 1)) $$ HL
  ihave HR := (Entails.of_eq (cred_if (F := F) (A := HasR c) (barCell c) 1)) $$ HR
  isplitl [HL]; · iexact HL
  isplitl [HR]; · iexact HR
  isplitl [HP] <;> iassumption

end Cert.KernelIdeal.Halo

end
-- ==== Proof.KernelIdeal.Launch.lean ====
/-
  The kernel's run on all devices: every fair execution ends, with each device's result in place, its input as it
  was, and every semaphore back at zero.
-/
module

public import proofs.«01_k».proof.Proof.KernelIdeal.Ghost
public import Idealize.ShloMosaic.Lib.Pipeline.CollectiveSegs

@[expose] public section

set_option maxRecDepth 16384

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds before and after the body -/

/-- The four scratch buffers, at any contents. -/
def scratch (c : Dev nD) : sProp 𝕄 :=
  iprop((∃ f, held c cc0_scratch0 fullShare f) ∗ (∃ f, held c cc0_scratch1 fullShare f)
    ∗ (∃ f, held c cc0_scratch2 fullShare f) ∗ (∃ f, held c cc0_scratch3 fullShare f))
/-- What the launch hands device `c`, but for the scratch buffers. -/
def start (c : Dev nD) : sProp 𝕄 :=
  iprop(shared m c ∗ (credBL c ∗ credBR c ∗ credP c ∗ credN c) ∗ levAts L lv ∗ input m c ∗ ∃ ou, held c main_v1 fullShare ou)
def Φ₀ (c : Dev nD) : sProp 𝕄 := iprop(start m c ∗ scratch c)
/-- What device `c` has left: every cell at zero, its input and its result. -/
def Φ₁ (c : Dev nD) : sProp 𝕄 :=
  iprop(closed c ∗ locals c ∗ (held c main_arg0 qA (X m c) ∗ held c main_v1 fullShare (outC m c)) ∗ scratch c)

/-- The region's data: it has no window, and one point. -/
def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A device's share of the input, split into what its copies take; the rows no remote copy reads are not needed twice. -/
theorem input_intro (c : Dev nD) : (held c main_arg0 fullShare (X m c) : sProp 𝕄) ⊢ input m c := by
  unfold held input ptsR ptsL
  iintro H
  ihave H := (pointsTo_share (PosShare.mem_left_op_right fullShare)).1 $$ H
  icases H with ⟨H1, H2⟩
  ihave H1 := (pointsTo_share (PosShare.mem_left_op_right fullShare.left)).1 $$ H1
  ihave H2 := (pointsTo_share (PosShare.mem_left_op_right fullShare.right)).1 $$ H2
  icases H1 with ⟨HA, HB⟩
  icases H2 with ⟨HR, HL⟩
  ihave HR := (pointsTo_split_subset (Finset.subset_univ (xR : Memref sig .tc .hbm S8x1024 .f32).view.set)).1 $$ HR
  ihave HL := (pointsTo_split_subset (Finset.subset_univ (xL : Memref sig .tc .hbm S8x1024 .f32).view.set)).1 $$ HL
  icases HR with ⟨HR, -⟩
  icases HL with ⟨HL, -⟩
  isplitl [HA]; · iexact HA
  isplitl [HB]; · iexact HB
  isplitl [HR]; · iexact HR
  iexact HL

/-! ## The body -/

/-- The body's walk, from the launch's holdings to those at the end. -/
theorem walk_run (c : Dev nD) (W : Waits sig Unit) :
    iprop(Φ₀ m c ∗ owes (c : Thread nD τ) (O₀ c) W)
      ⊢ wp frame (wpE (defs₀ (F := F)) 𝒱₀ (c : Thread nD τ) none) Set.univ (body (F := F))
          (fun _ => iprop(Φ₁ m c ∗ ∃ W', owes (c : Thread nD τ) 0 W')) := by
  have hpost : ∀ _ : PUnit, endRes m c ⊢ iprop(Φ₁ m c ∗ ∃ W', owes (c : Thread nD τ) 0 W') := fun _ => by
    unfold endRes Φ₁ input scratch
    iintro ⟨HO, Hc, Hl, ⟨HA, -⟩, Hs0, Hs1, Hs2, Hs3, Hv⟩
    isplitr [HO]
    · isplitl [Hc]; · iexact Hc
      isplitl [Hl]; · iexact Hl
      isplitl [HA Hv]
      · isplitl [HA] <;> iassumption
      isplitl [Hs0]; · iexact Hs0
      isplitl [Hs1]; · iexact Hs1
      isplitl [Hs2] <;> iassumption
    iexact HO
  have hpre (K : Dev nD × Fin 5 → ℕ) : startRes m K c W ⊢ wp frame (wpE (defs₀ (F := F)) 𝒱₀ (c : Thread nD τ) none) Set.univ (body (F := F))
          (fun _ => iprop(Φ₁ m c ∗ ∃ W', owes (c : Thread nD τ) 0 W')) :=
    (walk m K c W).trans (wp_mono _ _ _ hpost)
  unfold Φ₀ start shared scratch
  iintro ⟨⟨⟨⟨⟨%K, HR⟩, Ht, Hp, Hl⟩, ⟨H1, H2, H3, H4⟩, Hlev, Hin, Hv⟩, Hs0, Hs1, Hs2, Hs3⟩, HO⟩
  iapply (hpre K)
  unfold startRes ptsP ptsN
  isplitl [HR]; · iexact HR
  isplitl [Hlev]; · iexact Hlev
  isplitl [HO]; · iexact HO
  isplitl [Ht]; · iexact Ht
  isplitl [Hp]; · iexact Hp
  isplitl [H1]; · iexact H1
  isplitl [H2]; · iexact H2
  isplitl [H3]; · iexact H3
  isplitl [H4]; · iexact H4
  isplitl [Hl]; · iexact Hl
  isplitl [Hin]; · iexact Hin
  isplitl [Hs0]; · iexact Hs0
  isplitl [Hs1]; · iexact Hs1
  isplitl [Hs2]; · iexact Hs2
  isplitl [Hs3]; · iexact Hs3
  iexact Hv

theorem no_window (Φ : Fin cfg0.W → sProp 𝕄) : bigSep Finset.univ Φ = iprop(emp) := by
  rw [show (Finset.univ : Finset (Fin cfg0.W)) = ∅ from rfl]; exact bigSep_empty

/-- The obligation of the region's one point. -/
theorem body_obligation (c : Dev nD) : BodyObligation (dats (F := F) m 0 c) (defs₀ (F := F)) 𝒱₀ () Set.univ := fun t => by
  rw [fin_N0 t, no_window, no_window]
  show iprop(Φ₀ m c ∗ (dats m 0 c).owesAt () t0_0.castSucc ∗ emp) ⊢ wp frame (wpE (defs₀ (F := F)) 𝒱₀ (c : Thread nD τ) none) Set.univ (body (F := F))
    (fun _ => iprop(Φ₁ m c ∗ (dats m 0 c).owesAt () t0_0.succ ∗ emp))
  unfold Dat.owesAt Pipeline.owesWithin
  rw [show (dats m 0 c).owed t0_0.castSucc = O₀ c from rfl, show (dats m 0 c).owed t0_0.succ = 0 from rfl]
  iintro ⟨HΦ, ⟨%W, %hW, HO⟩, -⟩
  iapply ((walk_run m c W).trans (wp_mono _ _ _ fun _ => by
    iintro ⟨H, %W', HO⟩
    isplitl [H]; · iexact H
    isplitl [HO]
    · iexists W'
      isplitr; · ipureintro; exact fun _ _ => Or.inl trivial
      iexact HO
    iempintro))
  isplitl [HΦ] <;> iassumption

/-! ## Into and out of the region -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ shared m c)
      ⊢ |={Set.univ}=> iprop(start m c ∗ emp) := by
  rw [Pipeline.unscopedRestP_eq_of_list (win := cfg0.spec) (c := c) Pipeline.Prefetch.none _ [main_arg0, main_v1] (by decide) (by decide)]
  show iprop((held c main_arg0 fullShare (X m c) ∗ held c main_v1 fullShare (m ((c : Thread nD τ).loc main_v1))) ∗ levAts L lv
        ∗ Pipeline.launchCred O₀ c ∗ prngReg c (ρ c) ∗ shared m c) ⊢ _
  iintro ⟨⟨Hx, Hv⟩, Hlev, Hcr, -, HG⟩
  ihave Hc := (creds (F := F) c) $$ Hcr
  ihave Hin := (input_intro m c) $$ Hx
  imodintro
  isplitl
  · unfold start
    isplitl [HG]; · iexact HG
    isplitl [Hc]; · iexact Hc
    isplitl [Hlev]; · iexact Hlev
    isplitl [Hin]; · iexact Hin
    iexists _; iexact Hv
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What is read of device `c` when all is over: its barrier cell at zero, its input and its result. -/
def finish (c : Dev nD) : sProp 𝕄 :=
  iprop(unscopedSems0 c ∗ held c main_arg0 qA (X m c) ∗ held c main_v1 fullShare (outC m c))

theorem leave (c : Dev nD) :
    (dats m 0 c).Φ (Fin.last cfg0.N) ⊢ iprop(finish m c ∗ Pipeline.ownSems0 osem c ∗ Pipeline.scopedRest cfg0.spec c) := by
  rw [show (dats m 0 c).Φ (Fin.last cfg0.N) = Φ₁ m c from rfl, scopedRest0_eq, ownSems0_eq]
  unfold Φ₁ closed locals scratch finish
  rw [unscopedSems0_eq]
  iintro ⟨⟨HB, HdR, HdL, HaP, HaN⟩, ⟨H0, H1, H2, H3⟩, Hm, Hs⟩
  isplitl [HB Hm]
  · isplitl [HB] <;> iassumption
  isplitr [Hs]
  · isplitl [H0]; · iexact H0
    isplitl [H1]; · iexact H1
    isplitl [H2]; · iexact H2
    isplitl [H3]; · iexact H3
    isplitl [HdR]; · iexact HdR
    isplitl [HdL]; · iexact HdL
    isplitl [HaP] <;> iassumption
  iexact Hs

theorem waits (c : Dev nD) : (levAts L lv : sProp 𝕄) ⊢ Pipeline.cellsWaits cfgs (dats m) () 0 c :=
  Pipeline.cellsWaits_intro cfgs (dats m) () 0 c fun w _ _ => w.elim0

/-! ## The run -/

/-- What the final memory says of device `c`. -/
def Ends (c : Dev nD) (s : MemSt nD τ sig (Elt F)) : Prop :=
  (s.mem ((c : Thread nD τ).loc main_v1) = outC m c ∧ s.mem ((c : Thread nD τ).loc main_arg0) = X m c)
    ∧ ∀ sm : SemLoc sig, sm.isScoped .tc = false → s.sem ((c : Thread nD τ), sm) = 0

/-- A buffer held at known contents has these in the machine's memory. -/
theorem held_read (c : Dev nD) (b : Ref sig .tc) (q : PosShare TreeShare) (f : b.ty.Contents (Elt F)) (s' : Phys nD τ sig (Elt F)) :
    iprop(SI s' ∗ held c b q f) ⊢ (⌜s'.mem.mem ((c : Thread nD τ).loc b) = f⌝ : sProp 𝕄) :=
  SI_pointsTo_agree.trans (Laws.pure_mono fun h => funext fun i => h i (Finset.mem_univ i))

theorem finish_read (c : Dev nD) (s' : Phys nD τ sig (Elt F)) :
    iprop(finish m c ∗ emp ∗ SI s') ⊢ |={Set.univ}=> iprop(⌜Ends m c s'.mem⌝ ∗ SI s') := by
  unfold finish
  iintro ⟨⟨Hu, Hx, Hv⟩, -, HSI⟩
  ihave %hx := (held_read c main_arg0 qA (X m c) s') $$ [HSI Hx]
  · isplitl [HSI] <;> iassumption
  ihave %hv := (held_read c main_v1 fullShare (outC m c) s') $$ [HSI Hv]
  · isplitl [HSI] <;> iassumption
  imod (Pipeline.unscopedSems0_read (X := unscopedSems0 c) (c := c) fupd_intro s') $$ [Hu HSI] with ⟨%hs, HSI⟩
  · isplitl [Hu] <;> iassumption
  imodintro
  isplitr; · ipureintro; exact ⟨⟨hv, hx⟩, hs⟩
  iexact HSI

/-- From any memory with all counters at zero, every fair execution of the kernel on the thirty-two devices ends; at
    its end each device's result is `outC`, its input is what it was, and every counter is zero. -/
theorem run_main : θ_run defs (onTc (τ := τ) (main (F := F))) (⟨m, fun _ => 0, ρ⟩ : MemSt nD τ sig (Elt F))
    (fun r => (∀ c : Dev nD, r.2.mem ((c : Thread nD τ).loc main_v1) = outC m c ∧ r.2.mem ((c : Thread nD τ).loc main_arg0) = X m c)
      ∧ r.2.sem = fun _ => 0) :=
  Pipeline.θ_run_region_owing_glob_pf (fun p => (cfgs p).toPCfg) (fun p => (cfgs p).toPCfg_adm) (dats m) () cellOf_inj (0 : Fin 1)
    winFacts0.to₀ (show Pipeline.OwnSemFacts cfg0.spec osem by decide) (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := dealt m) (G' := shared m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_halo m) $$ HX with HG
      imodintro
      isplitl [HP] <;> iassumption)
    (hglob := glob m)
    (hA := fun _ _ => rfl) (hpf := fun _ k => k.elim0)
    (X := start m) (Y := finish m) (Z := fun _ => iprop(emp))
    (hX := start_intro m ρ) (hin := enter m) (hout := leave m)
    (QY := Ends m) (hY := finish_read m)
    (hQ := fun _ h hs => ⟨fun c => (h c).2.2.1, sem_eq_zero hs fun c => (h c).2.2.2⟩)

end Cert.KernelIdeal.Halo

end
-- ==== Proof.Same.lean ====
/-
  The kernel as printed for its machine words and as printed for the reals are one text, so one run serves both.
-/
module

public import proofs.«01_k».proof.Proof.KernelIdeal.Launch
public import proofs.«01_k».proof.Proof.Gen.Kernel

@[expose] public section

noncomputable section

namespace Cert.Same

open Idealize.ShloMosaic Idealize.ShloMosaic.TcCoe Idealize.SL.Sem

variable {F : FTy → Type} [FloatOps F]

local instance : Cert.Kernel.Facts := Cert.Kernel.Gen.facts
local instance : Cert.KernelIdeal.Facts := Cert.KernelIdeal.Gen.facts

/-- From any memory with zero counters the kernel ends on every device with its result, its argument kept and every counter at zero. -/
theorem kernel_run (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩
      (fun r => (∀ c : Dev Cert.Kernel.nD, r.2.mem ((c : Thread Cert.Kernel.nD Cert.Kernel.τ).loc Cert.Kernel.main_v1) = Cert.KernelIdeal.Halo.outC m c
          ∧ r.2.mem ((c : Thread Cert.Kernel.nD Cert.Kernel.τ).loc Cert.Kernel.main_arg0) = m ((c : Thread Cert.Kernel.nD Cert.Kernel.τ).loc Cert.Kernel.main_arg0))
        ∧ r.2.sem = fun _ => 0) :=
  Cert.KernelIdeal.Halo.run_main (F := F) m ρ

end Cert.Same

end
-- ==== Proof.Match.lean ====
/-
  The reference at an index, and that the devices' results are the blocks of the reference's.
-/
module

public import proofs.«01_k».proof.Proof.KernelIdeal.Value
public import proofs.«01_k».proof.Proof.Gen.ReferenceIdeal
public import Idealize.ShloMosaic.Lib.Layout

@[expose] public section

noncomputable section

namespace Cert.Match

open Idealize.ShloMosaic
open Idealize.ShloMosaic.TcCoe
open Idealize.ShloMosaic.ValueIdx (ix2)
open Cert.ReferenceIdeal Cert.ReferenceIdeal.Gen
open Cert.KernelIdeal.Halo (mix outC outRow row X HasL HasR lft rgt outRow_inner outRow_last outRow_first)

variable {F : FTy → Type} [FloatOps F]

/-! ## The reference -/

/-- The rows from row `r` on, as many as have two neighbours. -/
abbrev shifted (r : ℕ) (x : S65536x1024.Idx → F .f32) (h : S65536x1024.Slices ![r, 0] S65534x1024) : S65534x1024.Idx → F .f32 :=
  extractStridedSlice S65534x1024 ![r, 0] x h
/-- The rows times the number `b` spells. -/
abbrev times (b : BitVec 32) (x : S65534x1024.Idx → F .f32) : S65534x1024.Idx → F .f32 :=
  mulf (broadcastInDim S65534x1024 ![] bcast_S_S65534x1024 (constant S_ .f32 b)) x

/-- The mixed rows. -/
def inner (x : S65536x1024.Idx → F .f32) : S65534x1024.Idx → F .f32 :=
  addf (addf (times 0x3E800000#32 (shifted 0 x slices_S65536x1024_S65534x1024_0_0))
    (times 0x3F000000#32 (shifted 1 x slices_S65536x1024_S65534x1024_1_0))) (times 0x3E800000#32 (shifted 2 x slices_S65536x1024_S65534x1024_2_0))

/-- The three parts the reference joins: its first row, the mixed rows, its last row. -/
abbrev parts (x : S65536x1024.Idx → F .f32) : List ((s : Shape) × (s.Idx → F .f32)) :=
  [⟨S1x1024, extractStridedSlice S1x1024 ![0, 0] x slices_S65536x1024_S1x1024_0_0⟩, ⟨S65534x1024, inner x⟩,
    ⟨S1x1024, extractStridedSlice S1x1024 ![65535, 0] x slices_S65536x1024_S1x1024_65535_0⟩]

/-- The reference's result. -/
def result (x : S65536x1024.Idx → F .f32) : S65536x1024.Idx → F .f32 :=
  concatenate S65536x1024 0 (parts x) concatenates_S1x1024_S65534x1024_S1x1024_S65536x1024_d0

/-- The whole input at row `k` (counted round) and column `j`. -/
def at_ (x : S65536x1024.Idx → F .f32) (k : ℕ) (j : Fin 1024) : F .f32 := x (ix2 (⟨k % 65536, Nat.mod_lt _ (by omega)⟩ : Fin 65536) j)

/-- A row within the input is the row read round. -/
theorem at_eq (x : S65536x1024.Idx → F .f32) (k : ℕ) (h : k < 65536) (j : Fin 1024) : x (ix2 (⟨k, h⟩ : Fin 65536) j) = at_ x k j := by
  unfold at_; congr 2; exact Fin.ext (Nat.mod_eq_of_lt h).symm

/-- Rows cut out of the input, read at a row. -/
theorem cut_apply (r n : ℕ) (x : S65536x1024.Idx → F .f32) (h : S65536x1024.Slices ![r, 0] ⟨2, ![n, 1024]⟩) (i : Fin n) (j : Fin 1024) (hi : r + i.val < 65536) :
    extractStridedSlice ⟨2, ![n, 1024]⟩ ![r, 0] x h (ix2 i j) = at_ x (r + i.val) j := by
  refine (extractStridedSlice_apply ![r, 0] x h (ix2 i j) (ix2 (⟨r + i.val, hi⟩ : Fin 65536) j) fun a => ?_).trans (at_eq x _ hi j)
  match a with
  | ⟨0, _⟩ => rfl
  | ⟨1, _⟩ => exact (Nat.zero_add _).symm

/-- The product at an index. -/
theorem times_apply (b : BitVec 32) (x : S65534x1024.Idx → F .f32) (p : S65534x1024.Idx) :
    times b x p = FloatOps.mulf (FloatOps.ofBits .f32 b) (x p) := rfl

/-- Mixed row `i` mixes rows `i`, `i + 1` and `i + 2` of the input. -/
theorem inner_apply (x : S65536x1024.Idx → F .f32) (i : Fin 65534) (j : Fin 1024) :
    inner x (ix2 i j) = mix (at_ x i.val j) (at_ x (1 + i.val) j) (at_ x (2 + i.val) j) := by
  show FloatOps.addf (FloatOps.addf (times _ (shifted 0 x _) (ix2 i j)) (times _ (shifted 1 x _) (ix2 i j))) (times _ (shifted 2 x _) (ix2 i j)) = _
  rw [times_apply, times_apply, times_apply]
  unfold shifted
  rw [cut_apply 0 65534 x _ i j (by omega), cut_apply 1 65534 x _ i j (by omega), cut_apply 2 65534 x _ i j (by omega), Nat.zero_add]
  rfl

/-- The first row of the result is the first row of the input. -/
theorem result_first (x : S65536x1024.Idx → F .f32) (j : Fin 1024) : result x (ix2 (⟨0, by omega⟩ : Fin 65536) j) = at_ x 0 j := by
  refine (concatenate_apply_piece (t := S65536x1024) 0 (parts x) _ _ 0 (by decide : 0 < 3) S1x1024 _ rfl rfl 0 rfl (ix2 (0 : Fin 1) j) (fun b hb => ?_) rfl).trans
    (cut_apply 0 1 x _ 0 j (by decide))
  match b with
  | ⟨0, _⟩ => exact absurd rfl hb
  | ⟨1, _⟩ => rfl
/-- An inner row of the result mixes the input row with the two beside it. -/
theorem result_inner (x : S65536x1024.Idx → F .f32) (k : ℕ) (h0 : 0 < k) (h1 : k < 65535) (j : Fin 1024) :
    result x (ix2 (⟨k, by omega⟩ : Fin 65536) j) = mix (at_ x (k - 1) j) (at_ x k j) (at_ x (k + 1) j) := by
  refine (concatenate_apply_piece (t := S65536x1024) 0 (parts x) _ _ 1 (by decide : 1 < 3) S65534x1024 _ rfl rfl 1 rfl (ix2 (⟨k - 1, by omega⟩ : Fin 65534) j) (fun b hb => ?_)
    (by show 1 + (k - 1) = k; omega)).trans ((inner_apply x _ j).trans ?_)
  · match b with
    | ⟨0, _⟩ => exact absurd rfl hb
    | ⟨1, _⟩ => rfl
  · show mix (at_ x (k - 1) j) (at_ x (1 + (k - 1)) j) (at_ x (2 + (k - 1)) j) = _
    rw [show 1 + (k - 1) = k by omega, show 2 + (k - 1) = k + 1 by omega]
/-- The last row of the result is the last row of the input. -/
theorem result_last (x : S65536x1024.Idx → F .f32) (j : Fin 1024) : result x (ix2 (⟨65535, by omega⟩ : Fin 65536) j) = at_ x 65535 j := by
  refine (concatenate_apply_piece (t := S65536x1024) 0 (parts x) _ _ 2 (by decide : 2 < 3) S1x1024 _ rfl rfl 65535 rfl (ix2 (0 : Fin 1) j) (fun b hb => ?_) rfl).trans
    (cut_apply 65535 1 x _ 0 j (by decide))
  match b with
  | ⟨0, _⟩ => exact absurd rfl hb
  | ⟨1, _⟩ => rfl

/-- The reference's result at row `k`. -/
theorem result_apply (x : S65536x1024.Idx → F .f32) (k : ℕ) (h : k < 65536) (j : Fin 1024) :
    result x (ix2 (⟨k, h⟩ : Fin 65536) j) = if k = 0 ∨ k = 65535 then at_ x k j else mix (at_ x (k - 1) j) (at_ x k j) (at_ x (k + 1) j) := by
  by_cases h0 : k = 0
  · subst h0; rw [if_pos (.inl rfl)]; exact result_first x j
  by_cases h1 : k = 65535
  · subst h1; rw [if_pos (.inr rfl)]; exact result_last x j
  rw [if_neg (by omega)]; exact result_inner x k (by omega) (by omega) j

/-! ## The blocks -/

/-- Block `c` of an array of rows, at a row of the block. -/
theorem block_apply (c : Fin 32) (x : S65536x1024.Idx → F .f32) (i : Fin 2048) (j : Fin 1024) :
    Layout.block ⟨2, ![2048, 1024]⟩ ⟨2, ![65536, 1024]⟩ 0 32 c x (by decide) (ix2 i j) = x (ix2 (⟨c.val * 2048 + i.val, by omega⟩ : Fin 65536) j) := by
  rw [Layout.block_apply]
  congr 1
  funext a
  match a with
  | ⟨0, _⟩ => rfl
  | ⟨1, _⟩ => rfl

section
variable (m : (ℓ : Loc Cert.KernelIdeal.nD Cert.KernelIdeal.τ Cert.KernelIdeal.sig) → Buf (Elt F) ℓ) (x : S65536x1024.Idx → F .f32)
  (hm : ∀ c : Dev Cert.KernelIdeal.nD, X m c = Layout.block ⟨2, ![2048, 1024]⟩ ⟨2, ![65536, 1024]⟩ 0 32 c x)
include hm

/-- A device's row is a row of the whole. -/
theorem row_whole (c : Dev Cert.KernelIdeal.nD) (k : ℕ) (h : k < 2048) (j : Fin 1024) : row m c k j = at_ x (c.val * 2048 + k) j := by
  have hc : c.val < 32 := c.isLt
  rw [← Cert.KernelIdeal.Halo.row_eq m c k h j, hm c]
  exact (block_apply c x ⟨k, h⟩ j).trans (at_eq x _ (by omega) j)

/-- A device's row of the result is a row of the reference's. -/
theorem outRow_whole (c : Dev Cert.KernelIdeal.nD) (i : Fin 2048) (j : Fin 1024) :
    outRow m c i.val j = result x (ix2 (⟨c.val * 2048 + i.val, by have : c.val < 32 := c.isLt; omega⟩ : Fin 65536) j) := by
  have hc : c.val < 32 := c.isLt
  have hi := i.isLt
  rw [result_apply]
  by_cases h0 : i.val = 0
  · rw [h0, outRow_first]
    by_cases hl : HasL c
    · have hL : (lft c).val = c.val - 1 := by
        show (c.val + 31) % 32 = c.val - 1
        have : 0 < c.val := hl
        omega
      have hl' : 0 < c.val := hl
      rw [if_neg (not_not.mpr hl), if_neg (by omega), row_whole m x hm _ _ (by omega), row_whole m x hm _ _ (by omega), row_whole m x hm _ _ (by omega), hL,
        show (c.val - 1) * 2048 + 2047 = c.val * 2048 + 0 - 1 by omega]
    · have hl' : ¬ 0 < c.val := hl
      rw [if_pos hl, if_pos (by omega), row_whole m x hm _ _ (by omega)]
  by_cases h1 : i.val = 2047
  · rw [h1, outRow_last]
    by_cases hr : HasR c
    · have hr' : c.val < 31 := hr
      have hR : (rgt c).val = c.val + 1 := by
        show (c.val + 1) % 32 = c.val + 1
        omega
      rw [if_neg (not_not.mpr hr), if_neg (by omega), row_whole m x hm _ _ (by omega), row_whole m x hm _ _ (by omega), row_whole m x hm _ _ (by omega), hR,
        show (c.val + 1) * 2048 + 0 = c.val * 2048 + 2047 + 1 by omega, show c.val * 2048 + 2046 = c.val * 2048 + 2047 - 1 by omega]
    · have hr' : ¬ c.val < 31 := hr
      rw [if_pos hr, if_pos (by omega), row_whole m x hm _ _ (by omega)]
  rw [outRow_inner m c _ h0 h1, if_neg (by omega), row_whole m x hm _ _ (by omega), row_whole m x hm _ _ (by omega), row_whole m x hm _ _ (by omega),
    show c.val * 2048 + (i.val - 1) = c.val * 2048 + i.val - 1 by omega, Nat.add_assoc]

/-- A device's result is its block of the reference's. -/
theorem outC_block (c : Dev Cert.KernelIdeal.nD) : outC m c = Layout.block ⟨2, ![2048, 1024]⟩ ⟨2, ![65536, 1024]⟩ 0 32 c (result x) := by
  funext p
  obtain ⟨i, j, rfl⟩ : ∃ (i : Fin 2048) (j : Fin 1024), p = ix2 i j := ⟨p 0, p 1, ValueIdx.eq_ix2 p⟩
  exact (outRow_whole m x hm c i j).trans (block_apply c (result x) i j).symm

end

end Cert.Match

end
-- ==== Proof.lean ====
/-
  The certificate's claim: the three frames, that the idealization is the kernel's own text, and the equation of the kernel's
  result with the reference's.  The run is in Proof/KernelIdeal/Launch.lean, its reading at machine words in Proof/Same.lean,
  the reference at an index in Proof/Match.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdeal.Launch
public import proofs.«01_k».proof.Proof.Same
public import proofs.«01_k».proof.Proof.Match
public import Idealize.ShloMosaic.Adequacy
public import Idealize.ShloMosaic.Init
public import Idealize.ShloMosaic.Lib.Quiescent

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts

/-- The kernel at machine words ends, keeps its argument and leaves every counter at zero. -/
theorem kernel_frame : Cert.quiescent_Kernel := fun m ρ _ =>
  (θ_run _ _ _).mono (fun _ h => ⟨fun c => (h.1 c).2, h.2⟩) (Cert.Same.kernel_run (F := Bits) m ρ)

/-- The same of the kernel at the reals. -/
theorem ideal_frame : Cert.quiescent_KernelIdeal := fun m ρ _ =>
  (θ_run _ _ _).mono (fun _ h => ⟨fun c => (h.1 c).2, h.2⟩) (Cert.KernelIdeal.Halo.run_main (F := Ideal) m ρ)

/-- The same of the reference, which has no counter. -/
theorem reference_frame : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

/-- Every device's result is its block of the reference's result on the whole input. -/
theorem equal : Cert.algebraic_KernelIdeal_ReferenceIdeal := fun m ρ m' ρ' _ hm =>
  ⟨Cert.Match.result (F := Ideal) (m' (((0 : Dev Cert.ReferenceIdeal.nD).tc : Thread Cert.ReferenceIdeal.nD Cert.ReferenceIdeal.τ).loc Cert.ReferenceIdeal.main_arg0)),
    (θ_run _ _ _).mono (fun _ h c => ⟨(h.1 c).1.trans (Cert.Match.outC_block m _ hm c), (h.1 c).2⟩) (Cert.KernelIdeal.Halo.run_main (F := Ideal) m ρ),
    (θ_run _ _ _).mono (fun _ h => h 0) (Cert.ReferenceIdeal.Value.run (F := Ideal) m' ρ')⟩

/-- Everything the certificate claims. -/
theorem claim : Cert.Claim :=
  ⟨Cert.Kernel.Gen.facts, Cert.KernelIdeal.Gen.facts, Cert.ReferenceIdeal.Gen.facts, kernel_frame, ideal_frame, reference_frame, trivial, equal⟩

end Cert.Proof

end
